-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unmasked_unbiased [hPre_unmasked_unbiased : Cert.Pre_unmasked_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_unmasked_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_unmasked_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_unmasked_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_unmasked_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_unmasked_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_unmasked_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_unmasked_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_unmasked_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unmasked_unbiased [hPre_unmasked_unbiased : Cert.Pre_unmasked_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unmasked_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_unmasked_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_unmasked_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_unmasked_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_unmasked_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_unmasked_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_unmasked_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_unmasked_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2 = (fun _ => 1#1)

def Pre_Masked (m : (ℓ : Loc Cert.Masked.nD Cert.Masked.τ Cert.Masked.sig) → Buf (Elt Bits) ℓ) : Prop :=
  True

def Pre_MaskedIdeal (m : (ℓ : Loc Cert.MaskedIdeal.nD Cert.MaskedIdeal.τ Cert.MaskedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_unmasked_unbiased [hKernelIdeal : Cert.KernelIdeal.Facts] [hPre_unmasked_unbiased : Cert.Pre_unmasked_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unmasked_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_unmasked_unbiased [hReferenceIdeal : Cert.ReferenceIdeal.Facts] [hPre_unmasked_unbiased : Cert.Pre_unmasked_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unmasked_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Masked [hMasked : Cert.Masked.Facts] : Prop :=
  ∀ (m : (ℓ : Loc Cert.Masked.nD Cert.Masked.τ Cert.Masked.sig) → Buf (Elt Bits) ℓ) (g : Dev Cert.Masked.nD → PrngReg), Pre_Masked m →
    θ_run (Cert.Masked.defs (F := Bits)) (onTc (τ := Cert.Masked.τ) (Cert.Masked.main (F := Bits))) ⟨m, fun _ => 0, g⟩ (fun r => (∀ c : Dev Cert.Masked.nD,
      r.2.mem ((c.tc : Thread Cert.Masked.nD Cert.Masked.τ).loc Cert.Masked.main_arg0) = m ((c.tc : Thread Cert.Masked.nD Cert.Masked.τ).loc Cert.Masked.main_arg0)
      ∧ r.2.mem ((c.tc : Thread Cert.Masked.nD Cert.Masked.τ).loc Cert.Masked.main_arg1) = m ((c.tc : Thread Cert.Masked.nD Cert.Masked.τ).loc Cert.Masked.main_arg1)
      ∧ r.2.mem ((c.tc : Thread Cert.Masked.nD Cert.Masked.τ).loc Cert.Masked.main_arg2) = m ((c.tc : Thread Cert.Masked.nD Cert.Masked.τ).loc Cert.Masked.main_arg2)
      ∧ r.2.mem ((c.tc : Thread Cert.Masked.nD Cert.Masked.τ).loc Cert.Masked.main_arg3) = m ((c.tc : Thread Cert.Masked.nD Cert.Masked.τ).loc Cert.Masked.main_arg3)
      ∧ r.2.mem ((c.tc : Thread Cert.Masked.nD Cert.Masked.τ).loc Cert.Masked.main_arg4) = m ((c.tc : Thread Cert.Masked.nD Cert.Masked.τ).loc Cert.Masked.main_arg4)
      ∧ r.2.mem ((c.tc : Thread Cert.Masked.nD Cert.Masked.τ).loc Cert.Masked.main_arg5) = m ((c.tc : Thread Cert.Masked.nD Cert.Masked.τ).loc Cert.Masked.main_arg5)
      ∧ r.2.mem ((c.tc : Thread Cert.Masked.nD Cert.Masked.τ).loc Cert.Masked.main_arg6) = m ((c.tc : Thread Cert.Masked.nD Cert.Masked.τ).loc Cert.Masked.main_arg6)
      ∧ r.2.mem ((c.tc : Thread Cert.Masked.nD Cert.Masked.τ).loc Cert.Masked.main_arg7) = m ((c.tc : Thread Cert.Masked.nD Cert.Masked.τ).loc Cert.Masked.main_arg7)
      ∧ r.2.mem ((c.tc : Thread Cert.Masked.nD Cert.Masked.τ).loc Cert.Masked.main_arg8) = m ((c.tc : Thread Cert.Masked.nD Cert.Masked.τ).loc Cert.Masked.main_arg8)
      ∧ r.2.mem ((c.tc : Thread Cert.Masked.nD Cert.Masked.τ).loc Cert.Masked.main_arg9) = m ((c.tc : Thread Cert.Masked.nD Cert.Masked.τ).loc Cert.Masked.main_arg9)
      ∧ r.2.mem ((c.tc : Thread Cert.Masked.nD Cert.Masked.τ).loc Cert.Masked.main_arg10) = m ((c.tc : Thread Cert.Masked.nD Cert.Masked.τ).loc Cert.Masked.main_arg10)
      ∧ r.2.mem ((c.tc : Thread Cert.Masked.nD Cert.Masked.τ).loc Cert.Masked.main_arg11) = m ((c.tc : Thread Cert.Masked.nD Cert.Masked.τ).loc Cert.Masked.main_arg11)
      ∧ r.2.mem ((c.tc : Thread Cert.Masked.nD Cert.Masked.τ).loc Cert.Masked.main_arg12) = m ((c.tc : Thread Cert.Masked.nD Cert.Masked.τ).loc Cert.Masked.main_arg12)
      ∧ r.2.mem ((c.tc : Thread Cert.Masked.nD Cert.Masked.τ).loc Cert.Masked.main_arg13) = m ((c.tc : Thread Cert.Masked.nD Cert.Masked.τ).loc Cert.Masked.main_arg13)
      ∧ r.2.mem ((c.tc : Thread Cert.Masked.nD Cert.Masked.τ).loc Cert.Masked.main_arg14) = m ((c.tc : Thread Cert.Masked.nD Cert.Masked.τ).loc Cert.Masked.main_arg14)
      ∧ r.2.mem ((c.tc : Thread Cert.Masked.nD Cert.Masked.τ).loc Cert.Masked.main_arg15) = m ((c.tc : Thread Cert.Masked.nD Cert.Masked.τ).loc Cert.Masked.main_arg15)
      ∧ r.2.mem ((c.tc : Thread Cert.Masked.nD Cert.Masked.τ).loc Cert.Masked.main_arg16) = m ((c.tc : Thread Cert.Masked.nD Cert.Masked.τ).loc Cert.Masked.main_arg16))
      ∧ r.2.sem = fun _ => 0)

def quiescent_MaskedIdeal [hMaskedIdeal : Cert.MaskedIdeal.Facts] : Prop :=
  ∀ (m : (ℓ : Loc Cert.MaskedIdeal.nD Cert.MaskedIdeal.τ Cert.MaskedIdeal.sig) → Buf (Elt Ideal) ℓ) (g : Dev Cert.MaskedIdeal.nD → PrngReg), Pre_MaskedIdeal m →
    θ_run (Cert.MaskedIdeal.defs (F := Ideal)) (onTc (τ := Cert.MaskedIdeal.τ) (Cert.MaskedIdeal.main (F := Ideal))) ⟨m, fun _ => 0, g⟩ (fun r => (∀ c : Dev Cert.MaskedIdeal.nD,
      r.2.mem ((c.tc : Thread Cert.MaskedIdeal.nD Cert.MaskedIdeal.τ).loc Cert.MaskedIdeal.main_arg0) = m ((c.tc : Thread Cert.MaskedIdeal.nD Cert.MaskedIdeal.τ).loc Cert.MaskedIdeal.main_arg0)
      ∧ r.2.mem ((c.tc : Thread Cert.MaskedIdeal.nD Cert.MaskedIdeal.τ).loc Cert.MaskedIdeal.main_arg1) = m ((c.tc : Thread Cert.MaskedIdeal.nD Cert.MaskedIdeal.τ).loc Cert.MaskedIdeal.main_arg1)
      ∧ r.2.mem ((c.tc : Thread Cert.MaskedIdeal.nD Cert.MaskedIdeal.τ).loc Cert.MaskedIdeal.main_arg2) = m ((c.tc : Thread Cert.MaskedIdeal.nD Cert.MaskedIdeal.τ).loc Cert.MaskedIdeal.main_arg2)
      ∧ r.2.mem ((c.tc : Thread Cert.MaskedIdeal.nD Cert.MaskedIdeal.τ).loc Cert.MaskedIdeal.main_arg3) = m ((c.tc : Thread Cert.MaskedIdeal.nD Cert.MaskedIdeal.τ).loc Cert.MaskedIdeal.main_arg3)
      ∧ r.2.mem ((c.tc : Thread Cert.MaskedIdeal.nD Cert.MaskedIdeal.τ).loc Cert.MaskedIdeal.main_arg4) = m ((c.tc : Thread Cert.MaskedIdeal.nD Cert.MaskedIdeal.τ).loc Cert.MaskedIdeal.main_arg4)
      ∧ r.2.mem ((c.tc : Thread Cert.MaskedIdeal.nD Cert.MaskedIdeal.τ).loc Cert.MaskedIdeal.main_arg5) = m ((c.tc : Thread Cert.MaskedIdeal.nD Cert.MaskedIdeal.τ).loc Cert.MaskedIdeal.main_arg5)
      ∧ r.2.mem ((c.tc : Thread Cert.MaskedIdeal.nD Cert.MaskedIdeal.τ).loc Cert.MaskedIdeal.main_arg6) = m ((c.tc : Thread Cert.MaskedIdeal.nD Cert.MaskedIdeal.τ).loc Cert.MaskedIdeal.main_arg6)
      ∧ r.2.mem ((c.tc : Thread Cert.MaskedIdeal.nD Cert.MaskedIdeal.τ).loc Cert.MaskedIdeal.main_arg7) = m ((c.tc : Thread Cert.MaskedIdeal.nD Cert.MaskedIdeal.τ).loc Cert.MaskedIdeal.main_arg7)
      ∧ r.2.mem ((c.tc : Thread Cert.MaskedIdeal.nD Cert.MaskedIdeal.τ).loc Cert.MaskedIdeal.main_arg8) = m ((c.tc : Thread Cert.MaskedIdeal.nD Cert.MaskedIdeal.τ).loc Cert.MaskedIdeal.main_arg8)
      ∧ r.2.mem ((c.tc : Thread Cert.MaskedIdeal.nD Cert.MaskedIdeal.τ).loc Cert.MaskedIdeal.main_arg9) = m ((c.tc : Thread Cert.MaskedIdeal.nD Cert.MaskedIdeal.τ).loc Cert.MaskedIdeal.main_arg9)
      ∧ r.2.mem ((c.tc : Thread Cert.MaskedIdeal.nD Cert.MaskedIdeal.τ).loc Cert.MaskedIdeal.main_arg10) = m ((c.tc : Thread Cert.MaskedIdeal.nD Cert.MaskedIdeal.τ).loc Cert.MaskedIdeal.main_arg10)
      ∧ r.2.mem ((c.tc : Thread Cert.MaskedIdeal.nD Cert.MaskedIdeal.τ).loc Cert.MaskedIdeal.main_arg11) = m ((c.tc : Thread Cert.MaskedIdeal.nD Cert.MaskedIdeal.τ).loc Cert.MaskedIdeal.main_arg11)
      ∧ r.2.mem ((c.tc : Thread Cert.MaskedIdeal.nD Cert.MaskedIdeal.τ).loc Cert.MaskedIdeal.main_arg12) = m ((c.tc : Thread Cert.MaskedIdeal.nD Cert.MaskedIdeal.τ).loc Cert.MaskedIdeal.main_arg12)
      ∧ r.2.mem ((c.tc : Thread Cert.MaskedIdeal.nD Cert.MaskedIdeal.τ).loc Cert.MaskedIdeal.main_arg13) = m ((c.tc : Thread Cert.MaskedIdeal.nD Cert.MaskedIdeal.τ).loc Cert.MaskedIdeal.main_arg13)
      ∧ r.2.mem ((c.tc : Thread Cert.MaskedIdeal.nD Cert.MaskedIdeal.τ).loc Cert.MaskedIdeal.main_arg14) = m ((c.tc : Thread Cert.MaskedIdeal.nD Cert.MaskedIdeal.τ).loc Cert.MaskedIdeal.main_arg14)
      ∧ r.2.mem ((c.tc : Thread Cert.MaskedIdeal.nD Cert.MaskedIdeal.τ).loc Cert.MaskedIdeal.main_arg15) = m ((c.tc : Thread Cert.MaskedIdeal.nD Cert.MaskedIdeal.τ).loc Cert.MaskedIdeal.main_arg15)
      ∧ r.2.mem ((c.tc : Thread Cert.MaskedIdeal.nD Cert.MaskedIdeal.τ).loc Cert.MaskedIdeal.main_arg16) = m ((c.tc : Thread Cert.MaskedIdeal.nD Cert.MaskedIdeal.τ).loc Cert.MaskedIdeal.main_arg16))
      ∧ r.2.sem = fun _ => 0)

def preserves_Kernel_KernelIdeal : Prop :=
  True

def algebraic_KernelIdeal_ReferenceIdeal_pre_unmasked_unbiased [hKernelIdeal : Cert.KernelIdeal.Facts] [hReferenceIdeal : Cert.ReferenceIdeal.Facts] [hPre_unmasked_unbiased : Cert.Pre_unmasked_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unmasked_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Masked_MaskedIdeal : Prop :=
  True

def algebraic_MaskedIdeal_ReferenceIdeal [hMaskedIdeal : Cert.MaskedIdeal.Facts] [hReferenceIdeal : Cert.ReferenceIdeal.Facts] : Prop :=
  ∀ (m : (ℓ : Loc Cert.MaskedIdeal.nD Cert.MaskedIdeal.τ Cert.MaskedIdeal.sig) → Buf (Elt Ideal) ℓ) (g : Dev Cert.MaskedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_MaskedIdeal m →
    (∀ c : Dev Cert.MaskedIdeal.nD,
      m' ((c.tc : Thread Cert.ReferenceIdeal.nD Cert.ReferenceIdeal.τ).loc Cert.ReferenceIdeal.main_arg0) = m ((c.tc : Thread Cert.MaskedIdeal.nD Cert.MaskedIdeal.τ).loc Cert.MaskedIdeal.main_arg0)
      ∧ m' ((c.tc : Thread Cert.ReferenceIdeal.nD Cert.ReferenceIdeal.τ).loc Cert.ReferenceIdeal.main_arg1) = m ((c.tc : Thread Cert.MaskedIdeal.nD Cert.MaskedIdeal.τ).loc Cert.MaskedIdeal.main_arg1)
      ∧ m' ((c.tc : Thread Cert.ReferenceIdeal.nD Cert.ReferenceIdeal.τ).loc Cert.ReferenceIdeal.main_arg2) = m ((c.tc : Thread Cert.MaskedIdeal.nD Cert.MaskedIdeal.τ).loc Cert.MaskedIdeal.main_arg2)
      ∧ m' ((c.tc : Thread Cert.ReferenceIdeal.nD Cert.ReferenceIdeal.τ).loc Cert.ReferenceIdeal.main_arg3) = m ((c.tc : Thread Cert.MaskedIdeal.nD Cert.MaskedIdeal.τ).loc Cert.MaskedIdeal.main_arg3)
      ∧ m' ((c.tc : Thread Cert.ReferenceIdeal.nD Cert.ReferenceIdeal.τ).loc Cert.ReferenceIdeal.main_arg4) = m ((c.tc : Thread Cert.MaskedIdeal.nD Cert.MaskedIdeal.τ).loc Cert.MaskedIdeal.main_arg4)
      ∧ m' ((c.tc : Thread Cert.ReferenceIdeal.nD Cert.ReferenceIdeal.τ).loc Cert.ReferenceIdeal.main_arg5) = m ((c.tc : Thread Cert.MaskedIdeal.nD Cert.MaskedIdeal.τ).loc Cert.MaskedIdeal.main_arg5)
      ∧ m' ((c.tc : Thread Cert.ReferenceIdeal.nD Cert.ReferenceIdeal.τ).loc Cert.ReferenceIdeal.main_arg6) = m ((c.tc : Thread Cert.MaskedIdeal.nD Cert.MaskedIdeal.τ).loc Cert.MaskedIdeal.main_arg6)
      ∧ m' ((c.tc : Thread Cert.ReferenceIdeal.nD Cert.ReferenceIdeal.τ).loc Cert.ReferenceIdeal.main_arg7) = m ((c.tc : Thread Cert.MaskedIdeal.nD Cert.MaskedIdeal.τ).loc Cert.MaskedIdeal.main_arg7)
      ∧ m' ((c.tc : Thread Cert.ReferenceIdeal.nD Cert.ReferenceIdeal.τ).loc Cert.ReferenceIdeal.main_arg8) = m ((c.tc : Thread Cert.MaskedIdeal.nD Cert.MaskedIdeal.τ).loc Cert.MaskedIdeal.main_arg8)
      ∧ m' ((c.tc : Thread Cert.ReferenceIdeal.nD Cert.ReferenceIdeal.τ).loc Cert.ReferenceIdeal.main_arg9) = m ((c.tc : Thread Cert.MaskedIdeal.nD Cert.MaskedIdeal.τ).loc Cert.MaskedIdeal.main_arg9)
      ∧ m' ((c.tc : Thread Cert.ReferenceIdeal.nD Cert.ReferenceIdeal.τ).loc Cert.ReferenceIdeal.main_arg10) = m ((c.tc : Thread Cert.MaskedIdeal.nD Cert.MaskedIdeal.τ).loc Cert.MaskedIdeal.main_arg10)
      ∧ m' ((c.tc : Thread Cert.ReferenceIdeal.nD Cert.ReferenceIdeal.τ).loc Cert.ReferenceIdeal.main_arg11) = m ((c.tc : Thread Cert.MaskedIdeal.nD Cert.MaskedIdeal.τ).loc Cert.MaskedIdeal.main_arg11)
      ∧ m' ((c.tc : Thread Cert.ReferenceIdeal.nD Cert.ReferenceIdeal.τ).loc Cert.ReferenceIdeal.main_arg12) = m ((c.tc : Thread Cert.MaskedIdeal.nD Cert.MaskedIdeal.τ).loc Cert.MaskedIdeal.main_arg12)
      ∧ m' ((c.tc : Thread Cert.ReferenceIdeal.nD Cert.ReferenceIdeal.τ).loc Cert.ReferenceIdeal.main_arg13) = m ((c.tc : Thread Cert.MaskedIdeal.nD Cert.MaskedIdeal.τ).loc Cert.MaskedIdeal.main_arg13)
      ∧ m' ((c.tc : Thread Cert.ReferenceIdeal.nD Cert.ReferenceIdeal.τ).loc Cert.ReferenceIdeal.main_arg14) = m ((c.tc : Thread Cert.MaskedIdeal.nD Cert.MaskedIdeal.τ).loc Cert.MaskedIdeal.main_arg14)
      ∧ m' ((c.tc : Thread Cert.ReferenceIdeal.nD Cert.ReferenceIdeal.τ).loc Cert.ReferenceIdeal.main_arg15) = m ((c.tc : Thread Cert.MaskedIdeal.nD Cert.MaskedIdeal.τ).loc Cert.MaskedIdeal.main_arg15)
      ∧ m' ((c.tc : Thread Cert.ReferenceIdeal.nD Cert.ReferenceIdeal.τ).loc Cert.ReferenceIdeal.main_arg16) = m ((c.tc : Thread Cert.MaskedIdeal.nD Cert.MaskedIdeal.τ).loc Cert.MaskedIdeal.main_arg16)) →
    ∃ (v0 : (c : Dev Cert.MaskedIdeal.nD) → Buf (Elt Ideal) ((c.tc : Thread Cert.MaskedIdeal.nD Cert.MaskedIdeal.τ).loc Cert.MaskedIdeal.main_v7)),
      θ_run (Cert.MaskedIdeal.defs (F := Ideal)) (onTc (τ := Cert.MaskedIdeal.τ) (Cert.MaskedIdeal.main (F := Ideal))) ⟨m, fun _ => 0, g⟩ (fun r => ∀ c : Dev Cert.MaskedIdeal.nD,
          r.2.mem ((c.tc : Thread Cert.MaskedIdeal.nD Cert.MaskedIdeal.τ).loc Cert.MaskedIdeal.main_v7) = v0 c
          ∧ r.2.mem ((c.tc : Thread Cert.MaskedIdeal.nD Cert.MaskedIdeal.τ).loc Cert.MaskedIdeal.main_arg0) = m ((c.tc : Thread Cert.MaskedIdeal.nD Cert.MaskedIdeal.τ).loc Cert.MaskedIdeal.main_arg0)
          ∧ r.2.mem ((c.tc : Thread Cert.MaskedIdeal.nD Cert.MaskedIdeal.τ).loc Cert.MaskedIdeal.main_arg1) = m ((c.tc : Thread Cert.MaskedIdeal.nD Cert.MaskedIdeal.τ).loc Cert.MaskedIdeal.main_arg1)
          ∧ r.2.mem ((c.tc : Thread Cert.MaskedIdeal.nD Cert.MaskedIdeal.τ).loc Cert.MaskedIdeal.main_arg2) = m ((c.tc : Thread Cert.MaskedIdeal.nD Cert.MaskedIdeal.τ).loc Cert.MaskedIdeal.main_arg2)
          ∧ r.2.mem ((c.tc : Thread Cert.MaskedIdeal.nD Cert.MaskedIdeal.τ).loc Cert.MaskedIdeal.main_arg3) = m ((c.tc : Thread Cert.MaskedIdeal.nD Cert.MaskedIdeal.τ).loc Cert.MaskedIdeal.main_arg3)
          ∧ r.2.mem ((c.tc : Thread Cert.MaskedIdeal.nD Cert.MaskedIdeal.τ).loc Cert.MaskedIdeal.main_arg4) = m ((c.tc : Thread Cert.MaskedIdeal.nD Cert.MaskedIdeal.τ).loc Cert.MaskedIdeal.main_arg4)
          ∧ r.2.mem ((c.tc : Thread Cert.MaskedIdeal.nD Cert.MaskedIdeal.τ).loc Cert.MaskedIdeal.main_arg5) = m ((c.tc : Thread Cert.MaskedIdeal.nD Cert.MaskedIdeal.τ).loc Cert.MaskedIdeal.main_arg5)
          ∧ r.2.mem ((c.tc : Thread Cert.MaskedIdeal.nD Cert.MaskedIdeal.τ).loc Cert.MaskedIdeal.main_arg6) = m ((c.tc : Thread Cert.MaskedIdeal.nD Cert.MaskedIdeal.τ).loc Cert.MaskedIdeal.main_arg6)
          ∧ r.2.mem ((c.tc : Thread Cert.MaskedIdeal.nD Cert.MaskedIdeal.τ).loc Cert.MaskedIdeal.main_arg7) = m ((c.tc : Thread Cert.MaskedIdeal.nD Cert.MaskedIdeal.τ).loc Cert.MaskedIdeal.main_arg7)
          ∧ r.2.mem ((c.tc : Thread Cert.MaskedIdeal.nD Cert.MaskedIdeal.τ).loc Cert.MaskedIdeal.main_arg8) = m ((c.tc : Thread Cert.MaskedIdeal.nD Cert.MaskedIdeal.τ).loc Cert.MaskedIdeal.main_arg8)
          ∧ r.2.mem ((c.tc : Thread Cert.MaskedIdeal.nD Cert.MaskedIdeal.τ).loc Cert.MaskedIdeal.main_arg9) = m ((c.tc : Thread Cert.MaskedIdeal.nD Cert.MaskedIdeal.τ).loc Cert.MaskedIdeal.main_arg9)
          ∧ r.2.mem ((c.tc : Thread Cert.MaskedIdeal.nD Cert.MaskedIdeal.τ).loc Cert.MaskedIdeal.main_arg10) = m ((c.tc : Thread Cert.MaskedIdeal.nD Cert.MaskedIdeal.τ).loc Cert.MaskedIdeal.main_arg10)
          ∧ r.2.mem ((c.tc : Thread Cert.MaskedIdeal.nD Cert.MaskedIdeal.τ).loc Cert.MaskedIdeal.main_arg11) = m ((c.tc : Thread Cert.MaskedIdeal.nD Cert.MaskedIdeal.τ).loc Cert.MaskedIdeal.main_arg11)
          ∧ r.2.mem ((c.tc : Thread Cert.MaskedIdeal.nD Cert.MaskedIdeal.τ).loc Cert.MaskedIdeal.main_arg12) = m ((c.tc : Thread Cert.MaskedIdeal.nD Cert.MaskedIdeal.τ).loc Cert.MaskedIdeal.main_arg12)
          ∧ r.2.mem ((c.tc : Thread Cert.MaskedIdeal.nD Cert.MaskedIdeal.τ).loc Cert.MaskedIdeal.main_arg13) = m ((c.tc : Thread Cert.MaskedIdeal.nD Cert.MaskedIdeal.τ).loc Cert.MaskedIdeal.main_arg13)
          ∧ r.2.mem ((c.tc : Thread Cert.MaskedIdeal.nD Cert.MaskedIdeal.τ).loc Cert.MaskedIdeal.main_arg14) = m ((c.tc : Thread Cert.MaskedIdeal.nD Cert.MaskedIdeal.τ).loc Cert.MaskedIdeal.main_arg14)
          ∧ r.2.mem ((c.tc : Thread Cert.MaskedIdeal.nD Cert.MaskedIdeal.τ).loc Cert.MaskedIdeal.main_arg15) = m ((c.tc : Thread Cert.MaskedIdeal.nD Cert.MaskedIdeal.τ).loc Cert.MaskedIdeal.main_arg15)
          ∧ r.2.mem ((c.tc : Thread Cert.MaskedIdeal.nD Cert.MaskedIdeal.τ).loc Cert.MaskedIdeal.main_arg16) = m ((c.tc : Thread Cert.MaskedIdeal.nD Cert.MaskedIdeal.τ).loc Cert.MaskedIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hMasked : Cert.Masked.Facts) (hMaskedIdeal : Cert.MaskedIdeal.Facts) (hPre_unmasked_unbiased : Cert.Pre_unmasked_unbiased.Facts),
    quiescent_Kernel (hKernel := hKernel)
    ∧ quiescent_KernelIdeal (hKernelIdeal := hKernelIdeal)
    ∧ quiescent_KernelIdeal_pre_unmasked_unbiased (hKernelIdeal := hKernelIdeal) (hPre_unmasked_unbiased := hPre_unmasked_unbiased)
    ∧ quiescent_ReferenceIdeal (hReferenceIdeal := hReferenceIdeal)
    ∧ quiescent_ReferenceIdeal_pre_unmasked_unbiased (hReferenceIdeal := hReferenceIdeal) (hPre_unmasked_unbiased := hPre_unmasked_unbiased)
    ∧ quiescent_Masked (hMasked := hMasked)
    ∧ quiescent_MaskedIdeal (hMaskedIdeal := hMaskedIdeal)
    ∧ preserves_Kernel_KernelIdeal
    ∧ algebraic_KernelIdeal_ReferenceIdeal_pre_unmasked_unbiased (hKernelIdeal := hKernelIdeal) (hReferenceIdeal := hReferenceIdeal) (hPre_unmasked_unbiased := hPre_unmasked_unbiased)
    ∧ preserves_Masked_MaskedIdeal
    ∧ algebraic_MaskedIdeal_ReferenceIdeal (hMaskedIdeal := hMaskedIdeal) (hReferenceIdeal := hReferenceIdeal)
-- ==== Pre_unmasked_unbiased.lean ====
abbrev S16x512x256 : Shape := ⟨3, ![16, 512, 256]⟩
abbrev S16x512x1 : Shape := ⟨3, ![16, 512, 1]⟩
abbrev S16x512x512 : Shape := ⟨3, ![16, 512, 512]⟩
abbrev S256x256 : Shape := ⟨2, ![256, 256]⟩
abbrev S256 : Shape := ⟨1, ![256]⟩
abbrev S_ : Shape := ⟨0, ![]⟩

class Facts : Prop where
  bcast_S_S16x512x1 : S_.BroadcastsInDim S16x512x1 (![] : Fin 0 → Fin S16x512x1.rank)
  bcast_S_S256 : S_.BroadcastsInDim S256 (![] : Fin 0 → Fin S256.rank)

variable [Facts]

def fn {F : FTy → Type} [FloatOps F] (main_arg0 : FVec F S16x512x256 .f32) (main_arg1 : FVec F S16x512x1 .f32) (main_arg2 : FVec F S16x512x512 .f32) (main_arg3 : FVec F S256x256 .f32) (main_arg4 : FVec F S256x256 .f32) (main_arg5 : FVec F S256x256 .f32) (main_arg6 : FVec F S256x256 .f32) (main_arg7 : FVec F S256x256 .f32) (main_arg8 : FVec F S256x256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) : IVec S16x512x1 1 × IVec S256 1 × IVec S256 1 × IVec S256 1 × IVec S256 1 × IVec S256 1 × IVec S256 1 × IVec S256 1 :=
  let main_cst : FVec F S_ .f32 := constant S_ .f32 0x3F800000#32
  let main_v0 : FVec F S16x512x1 .f32 := broadcastInDim S16x512x1 ![] bcast_S_S16x512x1 main_cst
  let main_v1 : IVec S16x512x1 1 := cmpf .oeq main_arg1 main_v0
  let main_cst_0 : FVec F S_ .f32 := constant S_ .f32 0x00000000#32
  let main_v2 : FVec F S256 .f32 := broadcastInDim S256 ![] bcast_S_S256 main_cst_0
  let main_v3 : IVec S256 1 := cmpf .oeq main_arg10 main_v2
  let main_cst_1 : FVec F S_ .f32 := constant S_ .f32 0x00000000#32
  let main_v4 : FVec F S256 .f32 := broadcastInDim S256 ![] bcast_S_S256 main_cst_1
  let main_v5 : IVec S256 1 := cmpf .oeq main_arg11 main_v4
  let main_cst_2 : FVec F S_ .f32 := constant S_ .f32 0x00000000#32
  let main_v6 : FVec F S256 .f32 := broadcastInDim S256 ![] bcast_S_S256 main_cst_2
  let main_v7 : IVec S256 1 := cmpf .oeq main_arg12 main_v6
  let main_cst_3 : FVec F S_ .f32 := constant S_ .f32 0x00000000#32
  let main_v8 : FVec F S256 .f32 := broadcastInDim S256 ![] bcast_S_S256 main_cst_3
  let main_v9 : IVec S256 1 := cmpf .oeq main_arg13 main_v8
  let main_cst_4 : FVec F S_ .f32 := constant S_ .f32 0x00000000#32
  let main_v10 : FVec F S256 .f32 := broadcastInDim S256 ![] bcast_S_S256 main_cst_4
  let main_v11 : IVec S256 1 := cmpf .oeq main_arg14 main_v10
  let main_cst_5 : FVec F S_ .f32 := constant S_ .f32 0x00000000#32
  let main_v12 : FVec F S256 .f32 := broadcastInDim S256 ![] bcast_S_S256 main_cst_5
  let main_v13 : IVec S256 1 := cmpf .oeq main_arg15 main_v12
  let main_cst_6 : FVec F S_ .f32 := constant S_ .f32 0x00000000#32
  let main_v14 : FVec F S256 .f32 := broadcastInDim S256 ![] bcast_S_S256 main_cst_6
  let main_v15 : IVec S256 1 := cmpf .oeq main_arg16 main_v14
  (main_v1, main_v3, main_v5, main_v7, main_v9, main_v11, main_v13, main_v15)
-- ==== Kernel.lean ====
abbrev S16x512x256 : Shape := ⟨3, ![16, 512, 256]⟩
abbrev S16x512x1 : Shape := ⟨3, ![16, 512, 1]⟩
abbrev S16x512x512 : Shape := ⟨3, ![16, 512, 512]⟩
abbrev S256x256 : Shape := ⟨2, ![256, 256]⟩
abbrev S256 : Shape := ⟨1, ![256]⟩
abbrev S4x512x256 : Shape := ⟨3, ![4, 512, 256]⟩
abbrev S4x512x512 : Shape := ⟨3, ![4, 512, 512]⟩
abbrev S2048x256 : Shape := ⟨2, ![2048, 256]⟩
abbrev S256x512 : Shape := ⟨2, ![256, 512]⟩
abbrev S512x512 : Shape := ⟨2, ![512, 512]⟩
abbrev S512x256 : Shape := ⟨2, ![512, 256]⟩
abbrev S1x512x512 : Shape := ⟨3, ![1, 512, 512]⟩
abbrev S1x512x256 : Shape := ⟨3, ![1, 512, 256]⟩

abbrev nBuf : Space → Nat
  | .hbm => 18
  | .vmem => 14
  | .smem => 0
  | _ => 0

abbrev bufTy : (tb : Table) → Fin (tcTables nBuf tb) → BufTy
  | .hbm, ⟨0, _⟩ => ⟨S16x512x256, .f32⟩
  | .hbm, ⟨1, _⟩ => ⟨S16x512x1, .f32⟩
  | .hbm, ⟨2, _⟩ => ⟨S16x512x512, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S16x512x256, .f32⟩
  | .local _ .vmem, ⟨0, _⟩ => ⟨S4x512x256, .f32⟩
  | .local _ .vmem, ⟨1, _⟩ => ⟨S4x512x256, .f32⟩
  | .local _ .vmem, ⟨2, _⟩ => ⟨S4x512x512, .f32⟩
  | .local _ .vmem, ⟨3, _⟩ => ⟨S4x512x512, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S4x512x256, .f32⟩
  | .local _ .vmem, ⟨12, _⟩ => ⟨S4x512x256, .f32⟩
  | .local _ .vmem, ⟨13, _⟩ => ⟨S2048x256, .f32⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16x512x256 : Shape := ⟨3, ![16, 512, 256]⟩
abbrev S16x512x1 : Shape := ⟨3, ![16, 512, 1]⟩
abbrev S16x512x512 : Shape := ⟨3, ![16, 512, 512]⟩
abbrev S256x256 : Shape := ⟨2, ![256, 256]⟩
abbrev S256 : Shape := ⟨1, ![256]⟩
abbrev S1x1x256 : Shape := ⟨3, ![1, 1, 256]⟩
abbrev S_ : Shape := ⟨0, ![]⟩

abbrev nBuf : Space → Nat
  | .hbm => 138
  | .vmem => 0
  | .smem => 0
  | _ => 0

abbrev hbmTy0_0 (i : Nat) : BufTy := match i % 128 with
  | 0 => ⟨S16x512x256, .f32⟩
  | 1 => ⟨S16x512x1, .f32⟩
  | 2 => ⟨S16x512x512, .f32⟩
  | 3 => ⟨S256x256, .f32⟩
  | 4 => ⟨S256x256, .f32⟩
  | 5 => ⟨S256x256, .f32⟩
  | 6 => ⟨S256x256, .f32⟩
  | 7 => ⟨S256x256, .f32⟩
  | 8 => ⟨S256x256, .f32⟩
  | 9 => ⟨S256x256, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S256, .f32⟩
  | 17 => ⟨S16x512x256, .f32⟩
  | 18 => ⟨S1x1x256, .f32⟩
  | 19 => ⟨S16x512x256, .f32⟩
  | 20 => ⟨S16x512x256, .f32⟩
  | 21 => ⟨S_, .f32⟩
  | 22 => ⟨S16x512x256, .f32⟩
  | 23 => ⟨S16x512x256, .f32⟩
  | 24 => ⟨S16x512x256, .f32⟩
  | 25 => ⟨S16x512x256, .f32⟩
  | 26 => ⟨S16x512x256, .f32⟩
  | 27 => ⟨S16x512x256, .f32⟩
  | 28 => ⟨S1x1x256, .f32⟩
  | 29 => ⟨S16x512x256, .f32⟩
  | 30 => ⟨S16x512x256, .f32⟩
  | 31 => ⟨S16x512x256, .f32⟩
  | 32 => ⟨S1x1x256, .f32⟩
  | 33 => ⟨S16x512x256, .f32⟩
  | 34 => ⟨S16x512x256, .f32⟩
  | 35 => ⟨S16x512x256, .f32⟩
  | 36 => ⟨S16x512x256, .f32⟩
  | 37 => ⟨S16x512x256, .f32⟩
  | 38 => ⟨S_, .f32⟩
  | 39 => ⟨S16x512x256, .f32⟩
  | 40 => ⟨S16x512x256, .f32⟩
  | 41 => ⟨S_, .f32⟩
  | 42 => ⟨S16x512x256, .f32⟩
  | 43 => ⟨S16x512x256, .f32⟩
  | 44 => ⟨S16x512x256, .f32⟩
  | 45 => ⟨S1x1x256, .f32⟩
  | 46 => ⟨S16x512x256, .f32⟩
  | 47 => ⟨S16x512x256, .f32⟩
  | 48 => ⟨S16x512x256, .f32⟩
  | 49 => ⟨S1x1x256, .f32⟩
  | 50 => ⟨S16x512x256, .f32⟩
  | 51 => ⟨S16x512x256, .f32⟩
  | 52 => ⟨S16x512x256, .f32⟩
  | 53 => ⟨S16x512x256, .f32⟩
  | 54 => ⟨S16x512x256, .f32⟩
  | 55 => ⟨S_, .f32⟩
  | 56 => ⟨S16x512x256, .f32⟩
  | 57 => ⟨S16x512x256, .f32⟩
  | 58 => ⟨S_, .f32⟩
  | 59 => ⟨S16x512x256, .f32⟩
  | 60 => ⟨S16x512x256, .f32⟩
  | 61 => ⟨S16x512x256, .f32⟩
  | 62 => ⟨S1x1x256, .f32⟩
  | 63 => ⟨S16x512x256, .f32⟩
  | 64 => ⟨S16x512x256, .f32⟩
  | 65 => ⟨S16x512x256, .f32⟩
  | 66 => ⟨S16x512x256, .f32⟩
  | 67 => ⟨S1x1x256, .f32⟩
  | 68 => ⟨S16x512x256, .f32⟩
  | 69 => ⟨S16x512x256, .f32⟩
  | 70 => ⟨S16x512x256, .f32⟩
  | 71 => ⟨S16x512x256, .f32⟩
  | 72 => ⟨S16x512x256, .f32⟩
  | 73 => ⟨S_, .f32⟩
  | 74 => ⟨S16x512x256, .f32⟩
  | 75 => ⟨S16x512x256, .f32⟩
  | 76 => ⟨S16x512x256, .f32⟩
  | 77 => ⟨S_, .f32⟩
  | 78 => ⟨S16x512x256, .f32⟩
  | 79 => ⟨S16x512x256, .f32⟩
  | 80 => ⟨S16x512x256, .f32⟩
  | 81 => ⟨S16x512x256, .f32⟩
  | 82 => ⟨S16x512x256, .f32⟩
  | 83 => ⟨S16x512x256, .f32⟩
  | 84 => ⟨S1x1x256, .f32⟩
  | 85 => ⟨S16x512x256, .f32⟩
  | 86 => ⟨S16x512x256, .f32⟩
  | 87 => ⟨S16x512x256, .f32⟩
  | 88 => ⟨S1x1x256, .f32⟩
  | 89 => ⟨S16x512x256, .f32⟩
  | 90 => ⟨S16x512x256, .f32⟩
  | 91 => ⟨S16x512x256, .f32⟩
  | 92 => ⟨S16x512x256, .f32⟩
  | 93 => ⟨S16x512x256, .f32⟩
  | 94 => ⟨S_, .f32⟩
  | 95 => ⟨S16x512x256, .f32⟩
  | 96 => ⟨S16x512x256, .f32⟩
  | 97 => ⟨S_, .f32⟩
  | 98 => ⟨S16x512x256, .f32⟩
  | 99 => ⟨S16x512x256, .f32⟩
  | 100 => ⟨S16x512x256, .f32⟩
  | 101 => ⟨S1x1x256, .f32⟩
  | 102 => ⟨S16x512x256, .f32⟩
  | 103 => ⟨S16x512x256, .f32⟩
  | 104 => ⟨S16x512x256, .f32⟩
  | 105 => ⟨S1x1x256, .f32⟩
  | 106 => ⟨S16x512x256, .f32⟩
  | 107 => ⟨S16x512x256, .f32⟩
  | 108 => ⟨S16x512x256, .f32⟩
  | 109 => ⟨S16x512x256, .f32⟩
  | 110 => ⟨S16x512x256, .f32⟩
  | 111 => ⟨S_, .f32⟩
  | 112 => ⟨S16x512x256, .f32⟩
  | 113 => ⟨S16x512x256, .f32⟩
  | 114 => ⟨S_, .f32⟩
  | 115 => ⟨S16x512x256, .f32⟩
  | 116 => ⟨S16x512x256, .f32⟩
  | 117 => ⟨S16x512x256, .f32⟩
  | 118 => ⟨S1x1x256, .f32⟩
  | 119 => ⟨S16x512x256, .f32⟩
  | 120 => ⟨S16x512x256, .f32⟩
  | 121 => ⟨S16x512x256, .f32⟩
  | 122 => ⟨S16x512x256, .f32⟩
  | 123 => ⟨S1x1x256, .f32⟩
  | 124 => ⟨S16x512x256, .f32⟩
  | 125 => ⟨S16x512x256, .f32⟩
  | 126 => ⟨S16x512x256, .f32⟩
  | 127 => ⟨S16x512x256, .f32⟩
  | _ => ⟨S16x512x256, .f32⟩

abbrev hbmTy0_1 (i : Nat) : BufTy := match i % 128 with
  | 0 => ⟨S16x512x256, .f32⟩
  | 1 => ⟨S_, .f32⟩
  | 2 => ⟨S16x512x256, .f32⟩
  | 3 => ⟨S16x512x256, .f32⟩
  | 4 => ⟨S16x512x256, .f32⟩
  | 5 => ⟨S_, .f32⟩
  | 6 => ⟨S16x512x256, .f32⟩
  | 7 => ⟨S16x512x256, .f32⟩
  | 8 => ⟨S16x512x256, .f32⟩
  | 9 => ⟨S16x512x256, .f32⟩
  | _ => ⟨S16x512x256, .f32⟩

abbrev hbmTy (i : Nat) : BufTy := match i / 128 with
  | 0 => hbmTy0_0 i
  | 1 => hbmTy0_1 i
  | _ => ⟨S16x512x256, .f32⟩

abbrev bufTy : (tb : Table) → Fin (tcTables nBuf tb) → BufTy
  | .hbm, ⟨i, _⟩ => hbmTy i
  | _, _ => ⟨S16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_v51 : Ref sig .tc := ⟨.hbm, 76, rfl⟩
abbrev main_cst_3 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_4 : Ref sig .tc := ⟨.hbm, 94, rfl⟩
abbrev main_v68 : Ref sig .tc := ⟨.hbm, 95, rfl⟩
abbrev main_v69 : Ref sig .tc := ⟨.hbm, 96, rfl⟩
abbrev main_cst_5 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_6 : Ref sig .tc := ⟨.hbm, 111, rfl⟩
abbrev main_v83 : Ref sig .tc := ⟨.hbm, 112, rfl⟩
abbrev main_v84 : Ref sig .tc := ⟨.hbm, 113, rfl⟩
abbrev main_cst_7 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_call2_cst : Ref sig .tc := ⟨.hbm, 129, rfl⟩
abbrev main_call2_v0 : Ref sig .tc := ⟨.hbm, 130, rfl⟩
abbrev main_v99 : Ref sig .tc := ⟨.hbm, 131, rfl⟩
abbrev main_v100 : Ref sig .tc := ⟨.hbm, 132, rfl⟩
abbrev main_cst_8 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Masked.lean ====
abbrev S16x512x256 : Shape := ⟨3, ![16, 512, 256]⟩
abbrev S16x512x1 : Shape := ⟨3, ![16, 512, 1]⟩
abbrev S16x512x512 : Shape := ⟨3, ![16, 512, 512]⟩
abbrev S256x256 : Shape := ⟨2, ![256, 256]⟩
abbrev S256 : Shape := ⟨1, ![256]⟩
abbrev S1x256 : Shape := ⟨2, ![1, 256]⟩
abbrev S4x512x256 : Shape := ⟨3, ![4, 512, 256]⟩
abbrev S4x512x1 : Shape := ⟨3, ![4, 512, 1]⟩
abbrev S4x512x512 : Shape := ⟨3, ![4, 512, 512]⟩
abbrev S256x768 : Shape := ⟨2, ![256, 768]⟩
abbrev S256x512 : Shape := ⟨2, ![256, 512]⟩
abbrev S1x512 : Shape := ⟨2, ![1, 512]⟩
abbrev S2048x1 : Shape := ⟨2, ![2048, 1]⟩
abbrev S1x512x512 : Shape := ⟨3, ![1, 512, 512]⟩
abbrev S512x512 : Shape := ⟨2, ![512, 512]⟩
abbrev S2048x256 : Shape := ⟨2, ![2048, 256]⟩
abbrev S512x256 : Shape := ⟨2, ![512, 256]⟩
abbrev S512x1 : Shape := ⟨2, ![512, 1]⟩
abbrev S512x768 : Shape := ⟨2, ![512, 768]⟩

abbrev nBuf : Space → Nat
  | .hbm => 25
  | .vmem => 22
  | .smem => 0
  | _ => 0

abbrev bufTy : (tb : Table) → Fin (tcTables nBuf tb) → BufTy
  | .hbm, ⟨0, _⟩ => ⟨S16x512x256, .f32⟩
  | .hbm, ⟨1, _⟩ => ⟨S16x512x1, .f32⟩
  | .hbm, ⟨2, _⟩ => ⟨S16x512x512, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S16x512x256, .f32⟩
  | .local _ .vmem, ⟨0, _⟩ => ⟨S4x512x256, .f32⟩
  | .local _ .vmem, ⟨1, _⟩ => ⟨S4x512x256, .f32⟩
  | .local _ .vmem, ⟨2, _⟩ => ⟨S4x512x1, .f32⟩
  | .local _ .vmem, ⟨3, _⟩ => ⟨S4x512x1, .f32⟩
  | .local _ .vmem, ⟨4, _⟩ => ⟨S4x512x512, .f32⟩
  | .local _ .vmem, ⟨5, _⟩ => ⟨S4x512x512, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S4x512x256, .f32⟩
  | .local _ .vmem, ⟨21, _⟩ => ⟨S4x512x256, .f32⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Proof.Spec.lean ====
/- Hand-written, untrusted: THE LAYER OF ONE GRAPH AS PLAIN SUMS, over the extended reals and with no program in sight.
   A matrix is a function of its row and its column. `encode` is the input layer and `step` one gated update, each with the
   node mask and the biases of the problem; `encode₀` and `step₀` are the same with every mask entry one and every bias zero,
   written without them. `encode_one` and `step_one` say that the two agree there. -/
module

public import Idealize.ShloMosaic.Lib.Pointwise

@[expose] public section

noncomputable section

namespace Cert.Proof.Spec

open Idealize.ShloMosaic

/-- A matrix of extended reals. -/
abbrev Mat (a b : Nat) := Fin a → Fin b → EReal

/-- The weight matrices of the layer: the input layer's matrix and the gates' two matrices each (`0`: applied to what
    the neighbours send; `1`: applied to the node's own state). -/
structure Weights where
  e : Mat 256 256
  z0 : Mat 256 256
  z1 : Mat 256 256
  r0 : Mat 256 256
  r1 : Mat 256 256
  h0 : Mat 256 256
  h1 : Mat 256 256

/-- The bias rows of the layer, named as the weights. -/
structure Biases where
  e : Fin 256 → EReal
  z0 : Fin 256 → EReal
  z1 : Fin 256 → EReal
  r0 : Fin 256 → EReal
  r1 : Fin 256 → EReal
  h0 : Fin 256 → EReal
  h1 : Fin 256 → EReal

/-- Every bias zero. -/
def Biases.zero : Biases := ⟨0, 0, 0, 0, 0, 0, 0⟩

/-! ## Arrays by their coordinates -/

/-- A two-axis array by its row and column. -/
def matOf {a b : Nat} (X : (⟨2, ![a, b]⟩ : Shape).Idx → EReal) : Mat a b := fun i j => X (ix2 i j)

/-- Item `g` of a stack of matrices. -/
def itemOf {n a b : Nat} (X : (⟨3, ![n, a, b]⟩ : Shape).Idx → EReal) (g : Fin n) : Mat a b := fun i j => X (ix3 g i j)

/-- A one-axis array by its coordinate. -/
def rowOf {a : Nat} (X : (⟨1, ![a]⟩ : Shape).Idx → EReal) : Fin a → EReal := fun j => X (ix1 j)

/-- The mask of item `g`: its one column. -/
def maskOf {n a : Nat} (X : (⟨3, ![n, a, 1]⟩ : Shape).Idx → EReal) (g : Fin n) : Fin a → EReal := fun i => X (ix3 g i 0)

/-- The rows of graph `k` in the states of four graphs that lie one below the other. -/
def rowsOf (X : (⟨2, ![2048, 256]⟩ : Shape).Idx → EReal) (k : Fin 4) : Mat 512 256 :=
  fun i j => X (ix2 ⟨512 * k.val + i.val, by omega⟩ j)

/-- The weight arrays bundled. -/
def weights (We Wz0 Wz1 Wr0 Wr1 Wh0 Wh1 : (⟨2, ![256, 256]⟩ : Shape).Idx → EReal) : Weights :=
  ⟨matOf We, matOf Wz0, matOf Wz1, matOf Wr0, matOf Wr1, matOf Wh0, matOf Wh1⟩

/-- The bias arrays bundled. -/
def biases (be bz0 bz1 br0 br1 bh0 bh1 : (⟨1, ![256]⟩ : Shape).Idx → EReal) : Biases :=
  ⟨rowOf be, rowOf bz0, rowOf bz1, rowOf br0, rowOf br1, rowOf bh0, rowOf bh1⟩

/-! ## The operations of the layer -/

/-- The matrix product. -/
def mm {a b c : Nat} (A : Mat a b) (B : Mat b c) : Mat a c := fun i j => ∑ k : Fin b, A i k * B k j

/-- The positive part. -/
def relu (x : EReal) : EReal := max x 0

/-! ## With mask and biases -/

/-- The input layer: the mask times the positive part of the dense map. -/
def encode (W : Weights) (b : Biases) (M : Fin 512 → EReal) (x : Mat 512 256) : Mat 512 256 :=
  fun i j => M i * relu (mm x W.e i j + b.e j)

/-- A gate before its nonlinearity: a dense map of the messages plus a dense map of the state. -/
def pre (A X : Mat 512 256) (W0 : Mat 256 256) (b0 : Fin 256 → EReal) (W1 : Mat 256 256) (b1 : Fin 256 → EReal) :
    Mat 512 256 :=
  fun i j => (mm A W0 i j + b0 j) + (mm X W1 i j + b1 j)

/-- One gated update of the state `X` along the support `S`. -/
def step (W : Weights) (b : Biases) (M : Fin 512 → EReal) (S : Mat 512 512) (X : Mat 512 256) : Mat 512 256 :=
  fun i j =>
    relu (M i * pre (mm S X) (fun p q => Ideal.logistic (pre (mm S X) X W.r0 b.r0 W.r1 b.r1 p q) * X p q)
        W.h0 b.h0 W.h1 b.h1 i j)
      * Ideal.logistic (pre (mm S X) X W.z0 b.z0 W.z1 b.z1 i j)
    + X i j * (1 - Ideal.logistic (pre (mm S X) X W.z0 b.z0 W.z1 b.z1 i j))

/-- The layer: the input layer and two updates. -/
def layer (W : Weights) (b : Biases) (M : Fin 512 → EReal) (S : Mat 512 512) (x : Mat 512 256) : Mat 512 256 :=
  step W b M S (step W b M S (encode W b M x))

/-! ## Without -/

/-- The input layer with the mask one and the bias zero. -/
def encode₀ (W : Weights) (x : Mat 512 256) : Mat 512 256 := fun i j => relu (mm x W.e i j)

/-- A gate before its nonlinearity, with no bias. -/
def pre₀ (A X : Mat 512 256) (W0 W1 : Mat 256 256) : Mat 512 256 := fun i j => mm A W0 i j + mm X W1 i j

/-- One gated update with the mask one and the biases zero. -/
def step₀ (W : Weights) (S : Mat 512 512) (X : Mat 512 256) : Mat 512 256 :=
  fun i j =>
    relu (pre₀ (mm S X) (fun p q => Ideal.logistic (pre₀ (mm S X) X W.r0 W.r1 p q) * X p q) W.h0 W.h1 i j)
      * Ideal.logistic (pre₀ (mm S X) X W.z0 W.z1 i j)
    + X i j * (1 - Ideal.logistic (pre₀ (mm S X) X W.z0 W.z1 i j))

/-- The layer with the mask one and the biases zero. -/
def layer₀ (W : Weights) (S : Mat 512 512) (x : Mat 512 256) : Mat 512 256 := step₀ W S (step₀ W S (encode₀ W x))

/-! ## They agree where the mask is one and the biases are zero -/

theorem encode_one (W : Weights) (x : Mat 512 256) : encode W .zero 1 x = encode₀ W x := by
  funext i j
  simp only [encode, encode₀, Biases.zero, Pi.one_apply, Pi.zero_apply, one_mul, add_zero]

theorem pre_zero (A X : Mat 512 256) (W0 W1 : Mat 256 256) : pre A X W0 0 W1 0 = pre₀ A X W0 W1 := by
  funext i j
  simp only [pre, pre₀, Pi.zero_apply, add_zero]

theorem step_one (W : Weights) (S : Mat 512 512) (X : Mat 512 256) : step W .zero 1 S X = step₀ W S X := by
  funext i j
  simp only [step, step₀, Biases.zero, pre_zero, Pi.one_apply, one_mul]

theorem layer_one (W : Weights) (S : Mat 512 512) (x : Mat 512 256) : layer W .zero 1 S x = layer₀ W S x := by
  simp only [layer, layer₀, encode_one, step_one]

end Cert.Proof.Spec

end
-- ==== Proof.Cell.lean ====
/- Hand-written, untrusted: ONE GRAPH OF ONE GATED UPDATE, AS THE KERNEL COMPUTES IT. `cell` is the vector expression every
   one of the kernel's eight updates is an instance of (four graphs, twice), at any place of the graph's rows in the stacked
   states; `cell_apply` is its value: the update `step₀` of `Spec`, whose sums over 256 columns of two matrices are the
   kernel's one sum over 512 columns of their concatenation. `encode_apply` is the input layer's. -/
module

public import proofs.«01_k».proof.Proof.Gen.KernelIdeal.Value
public import proofs.«01_k».proof.Proof.Spec

@[expose] public section

set_option maxRecDepth 16384

noncomputable section

namespace Cert.Proof.Cell

open Cert.KernelIdeal Cert.KernelIdeal.Gen Cert.Proof.Spec
open Idealize.ShloMosaic Idealize.ShloMosaic.TcCoe Idealize.SL.Sem

/-- The messages: the support times the graph's rows. -/
def msg (S : FVec Ideal S512x512 .bf16) (X : FVec Ideal S2048x256 .f32) (o : Nat)
    (h : S2048x256.Slices ![o, 0] S512x256) : FVec Ideal S512x256 .bf16 :=
  truncf .bf16 (matmul dot_S512x512_S512x256_S512x256_1_0_0_1_n_n none S
    (extractStridedSlice S512x256 ![o, 0] (truncf .bf16 X bitsLt_bf16_f32) h) (constant S512x256 .f32 0x00000000#32))
    bitsLt_bf16_f32

/-- The update and the reset gate side by side. -/
def gates (Wzr : FVec Ideal S512x512 .bf16) (S : FVec Ideal S512x512 .bf16) (X : FVec Ideal S2048x256 .f32) (o : Nat)
    (h : S2048x256.Slices ![o, 0] S512x256) : FVec Ideal S512x512 .f32 :=
  logistic (matmul dot_S512x512_S512x512_S512x512_1_0_0_1_n_n none
    (concatenate S512x512 1 [⟨S512x256, msg S X o h⟩,
      ⟨S512x256, extractStridedSlice S512x256 ![o, 0] (truncf .bf16 X bitsLt_bf16_f32) h⟩]
      concatenates_S512x256_S512x256_S512x512_d1)
    Wzr (constant S512x512 .f32 0x00000000#32))

/-- One gated update of the graph whose rows begin at `o`. -/
def cell (Wzr : FVec Ideal S512x512 .bf16) (Whh : FVec Ideal S512x256 .bf16) (S : FVec Ideal S512x512 .bf16)
    (X : FVec Ideal S2048x256 .f32) (o : Nat) (h : S2048x256.Slices ![o, 0] S512x256) : FVec Ideal S512x256 .f32 :=
  have x : FVec Ideal S512x256 .f32 := extractStridedSlice S512x256 ![o, 0] X h
  have z : FVec Ideal S512x256 .f32 := extractStridedSlice S512x256 ![0, 0] (gates Wzr S X o h) slices_S512x512_o0_0_S512x256
  have r : FVec Ideal S512x256 .f32 := extractStridedSlice S512x256 ![0, 256] (gates Wzr S X o h) slices_S512x512_o0_256_S512x256
  addf
    (mulf (maximumf
        (matmul dot_S512x512_S512x256_S512x256_1_0_0_1_n_n none
          (concatenate S512x512 1 [⟨S512x256, msg S X o h⟩, ⟨S512x256, truncf .bf16 (mulf r x) bitsLt_bf16_f32⟩]
            concatenates_S512x256_S512x256_S512x512_d1)
          Whh (constant S512x256 .f32 0x00000000#32))
        (broadcast S512x256 (Scalar.ofBits .f32 0x00000000#32)))
      z)
    (mulf x (subf (broadcast S512x256 (Scalar.ofBits .f32 0x3F800000#32)) z))

theorem msg_apply (S : FVec Ideal S512x512 .bf16) (X : FVec Ideal S2048x256 .f32) (k : Fin 4)
    (h : S2048x256.Slices ![512 * k.val, 0] S512x256) (i : Fin 512) (j : Fin 256) :
    msg S X (512 * k.val) h (ix2 i j) = mm (matOf S) (rowsOf X k) i j := by
  unfold msg mm matOf rowsOf
  pointwise

/-- The left half of the gates is the update gate's. -/
theorem gates_left (Wz0 Wr0 Wz1 Wr1 : Vec Ideal S256x256 .f32) (S : FVec Ideal S512x512 .bf16)
    (X : FVec Ideal S2048x256 .f32) (k : Fin 4) (h : S2048x256.Slices ![512 * k.val, 0] S512x256) (i : Fin 512) (j : Fin 256) :
    gates (k0_pay3 Wz0 Wr0 Wz1 Wr1) S X (512 * k.val) h (ix2 i ⟨j.val, by omega⟩)
      = Ideal.logistic (pre₀ (mm (matOf S) (rowsOf X k)) (rowsOf X k) (matOf Wz0) (matOf Wz1) i j) := by
  unfold gates k0_pay3
  pointwise
  simp only [msg_apply]
  rfl

/-- The right half of the gates is the reset gate's. -/
theorem gates_right (Wz0 Wr0 Wz1 Wr1 : Vec Ideal S256x256 .f32) (S : FVec Ideal S512x512 .bf16)
    (X : FVec Ideal S2048x256 .f32) (k : Fin 4) (h : S2048x256.Slices ![512 * k.val, 0] S512x256) (i : Fin 512) (j : Fin 256) :
    gates (k0_pay3 Wz0 Wr0 Wz1 Wr1) S X (512 * k.val) h (ix2 i ⟨256 + j.val, by omega⟩)
      = Ideal.logistic (pre₀ (mm (matOf S) (rowsOf X k)) (rowsOf X k) (matOf Wr0) (matOf Wr1) i j) := by
  unfold gates k0_pay3
  pointwise
  simp only [msg_apply]
  rfl

/-- One update of graph `k` of the block. -/
theorem cell_apply (We Wz0 Wz1 Wr0 Wr1 Wh0 Wh1 : Vec Ideal S256x256 .f32) (S : FVec Ideal S512x512 .bf16)
    (X : FVec Ideal S2048x256 .f32) (k : Fin 4) (h : S2048x256.Slices ![512 * k.val, 0] S512x256) :
    matOf (cell (k0_pay3 Wz0 Wr0 Wz1 Wr1) (k0_pay4 Wh0 Wh1) S X (512 * k.val) h)
      = step₀ (weights We Wz0 Wz1 Wr0 Wr1 Wh0 Wh1) (matOf S) (rowsOf X k) := by
  funext i j
  unfold cell k0_pay4 matOf
  pointwise
  simp only [msg_apply, gates_left, gates_right]
  rfl

/-- The input layer of a block's four graphs, at graph `k`. -/
theorem encode_apply (x : Vec Ideal S4x512x256 .f32) (We Wz0 Wz1 Wr0 Wr1 Wh0 Wh1 : Vec Ideal S256x256 .f32) (k : Fin 4) :
    rowsOf (k0_pay10 (k0_pay2 We) (k0_pay9 x) (constant S2048x256 .f32 0x00000000#32)) k
      = encode₀ (weights We Wz0 Wz1 Wr0 Wr1 Wh0 Wh1) (itemOf x k) := by
  funext i j
  unfold rowsOf k0_pay10 k0_pay2 k0_pay9
  pointwise
  rfl

end Cert.Proof.Cell

end
-- ==== Proof.Stack.lean ====
/- Hand-written, untrusted: THE TWO BUFFERS A GRID POINT FILLS GRAPH BY GRAPH. Four stores of 512 rows leave the scratch
   holding four graphs' states one below the other (`stackRows`, `scratch_eq`), whose rows of graph `k` are that graph's states
   (`rowsOf_stackRows`); four stores at one leading index each leave the output block holding them side by side (`out_eq`).
   Whatever the states are: nothing here reads the kernel's arithmetic. -/
module

public import proofs.«01_k».proof.Proof.Cell
public import Idealize.ShloMosaic.Lib.Pipeline.ValueKit
public import Idealize.ShloMosaic.Lib.Pipeline.ValueKit.Stack

@[expose] public section

set_option maxRecDepth 16384

noncomputable section

namespace Cert.Proof.Stack

open Cert.KernelIdeal Cert.KernelIdeal.Gen Cert.Proof.Spec Cert.Proof.Cell
open Idealize.ShloMosaic Idealize.ShloMosaic.TcCoe Idealize.SL.Sem

/-- Four graphs' states, one below the other. -/
def stackRows (f : Fin 4 → FVec Ideal S512x256 .f32) : FVec Ideal S2048x256 .f32 :=
  fun y => f ⟨(y 0).val / 512, by have : (y 0).val < 2048 := (y 0).isLt; omega⟩
    (ix2 ⟨(y 0).val % 512, Nat.mod_lt _ (by decide)⟩ (y 1))

/-- The rows of graph `k` among them are that graph's states. -/
theorem rowsOf_stackRows (f : Fin 4 → FVec Ideal S512x256 .f32) (k : Fin 4) : rowsOf (stackRows f) k = matOf (f k) := by
  funext i j
  have h1 : (512 * k.val + i.val) / 512 = k.val := by omega
  have h2 : (512 * k.val + i.val) % 512 = i.val := by omega
  unfold rowsOf stackRows matOf
  simp only [ix2_0, ix2_1, h1, h2, Fin.eta]

/-- What four stores of 512 rows leave at a row of the stacked states. -/
theorem stackRows_piece (f : Fin 4 → FVec Ideal S512x256 .f32) (k : Fin 4) (x : S512x256.Idx) (y : S2048x256.Idx)
    (h0 : (y 0).val = 512 * k.val + (x 0).val) (h1 : (y 1).val = (x 1).val) : f k x = stackRows f y := by
  have hx : (x 0).val < 512 := (x 0).isLt
  have e1 : (y 0).val / 512 = k.val := by omega
  have e2 : (y 0).val % 512 = (x 0).val := by omega
  unfold stackRows
  simp only [e1, e2, Fin.eta]
  congr 1
  funext a
  apply Fin.ext
  match a with
  | ⟨0, _⟩ => rfl
  | ⟨1, _⟩ => exact h1.symm

/-- The scratch read back whole after the four graphs' stores. -/
theorem scratch_eq (f : Fin 4 → FVec Ideal S512x256 .f32) :
    (View.whole cc0_scratch0).readCov (Val := Elt Ideal)
      [⟨Rect.unit ![1536, 0] S512x256.size inb_S2048x256_S512x256_1536_0, f 3⟩,
       ⟨Rect.unit ![1024, 0] S512x256.size inb_S2048x256_S512x256_1024_0, f 2⟩,
       ⟨Rect.unit ![512, 0] S512x256.size inb_S2048x256_S512x256_512_0, f 1⟩,
       ⟨Rect.unit ![0, 0] S512x256.size inb_S2048x256_S512x256_0_0, f 0⟩]
      (Rect.unit (s := S2048x256) ![0, 0] S2048x256.size inb_S2048x256_S2048x256_0_0).toLoadRect = stackRows f := by
  rw [View.readCov_eq_canon']
  funext j
  have hj : (Rect.unit (s := S2048x256) ![0, 0] S2048x256.size inb_S2048x256_S2048x256_0_0).toLoadRect.idx j = j := by
    funext a
    apply Fin.ext
    match a with
    | ⟨0, _⟩ => show 0 + 1 * (j 0).val = (j 0).val; omega
    | ⟨1, _⟩ => show 0 + 1 * (j 1).val = (j 1).val; omega
  show View.canon _ ((Rect.unit (s := S2048x256) ![0, 0] S2048x256.size inb_S2048x256_S2048x256_0_0).toLoadRect.idx j) = _
  rw [hj]
  canon_tiles x h
  · exact stackRows_piece f 3 x j h0 h1
  · exact stackRows_piece f 2 x j h0 h1
  · exact stackRows_piece f 1 x j h0 h1
  · exact stackRows_piece f 0 x j (by rw [h0]; exact (Nat.zero_add _).symm) h1

/-- The output block after the four graphs' stores. -/
theorem out_eq (f : Fin 4 → FVec Ideal S512x256 .f32) :
    View.canon (Val := Elt Ideal) (s := S4x512x256) (e := .f32)
      [⟨Rect.unit (s := S4x512x256) ![3, 0, 0] S1x512x256.size inb_S4x512x256_S1x512x256_3_0_0, shapeCast S1x512x256 (f 3) shapeCasts_S512x256_S1x512x256⟩,
       ⟨Rect.unit (s := S4x512x256) ![2, 0, 0] S1x512x256.size inb_S4x512x256_S1x512x256_2_0_0, shapeCast S1x512x256 (f 2) shapeCasts_S512x256_S1x512x256⟩,
       ⟨Rect.unit (s := S4x512x256) ![1, 0, 0] S1x512x256.size inb_S4x512x256_S1x512x256_1_0_0, shapeCast S1x512x256 (f 1) shapeCasts_S512x256_S1x512x256⟩,
       ⟨Rect.unit (s := S4x512x256) ![0, 0, 0] S1x512x256.size inb_S4x512x256_S1x512x256_0_0_0, shapeCast S1x512x256 (f 0) shapeCasts_S512x256_S1x512x256⟩]
      = (stackAlong0 f : FVec Ideal S4x512x256 .f32) := by
  funext y
  canon_tiles x h
  · exact stack_piece f 3 _ x y h0 (by intro a; match a with | ⟨0, _⟩ => exact h1 | ⟨1, _⟩ => exact h2)
  · exact stack_piece f 2 _ x y h0 (by intro a; match a with | ⟨0, _⟩ => exact h1 | ⟨1, _⟩ => exact h2)
  · exact stack_piece f 1 _ x y h0 (by intro a; match a with | ⟨0, _⟩ => exact h1 | ⟨1, _⟩ => exact h2)
  · exact stack_piece f 0 _ x y (by rw [h0]; exact (Nat.zero_add _).symm) (by intro a; match a with | ⟨0, _⟩ => exact h1 | ⟨1, _⟩ => exact h2)

end Cert.Proof.Stack

end
-- ==== Proof.Block.lean ====
/- Hand-written, untrusted: WHAT A GRID POINT COMPUTES. Its four graphs are encoded together (`start`), updated once each into
   the scratch (`first`), and updated again into the output block (`second`); each update is `Cell.cell` at its graph's rows
   (`first_0` to `first_3` for the four stores into the scratch). So the block it leaves (`after_eq`) holds, at graph `k`, the
   layer of that graph (`second_apply`). -/
module

public import proofs.«01_k».proof.Proof.Stack

@[expose] public section

set_option maxRecDepth 16384

noncomputable section

namespace Cert.Proof.Block

open Cert.KernelIdeal Cert.KernelIdeal.Gen Cert.KernelIdeal.Value Cert.Proof.Spec Cert.Proof.Cell Cert.Proof.Stack
open Idealize.ShloMosaic Idealize.ShloMosaic.TcCoe Idealize.SL.Sem

/-! ## The block's two updates -/

variable (x : Vec Ideal S4x512x256 .f32) (s : Vec Ideal S4x512x512 .f32) (We Wz0 Wz1 Wr0 Wr1 Wh0 Wh1 : Vec Ideal S256x256 .f32)

theorem slices_rows (k : Fin 4) : S2048x256.Slices ![512 * k.val, 0] S512x256 := by
  match k with
  | 0 => exact slices_S2048x256_o0_0_S512x256
  | 1 => exact slices_S2048x256_o512_0_S512x256
  | 2 => exact slices_S2048x256_o1024_0_S512x256
  | 3 => exact slices_S2048x256_o1536_0_S512x256

theorem inb_support (k : Fin 4) : ∀ a, (![k.val, 0, 0] : Fin 3 → Nat) a + S1x512x512.size a ≤ S4x512x512.size a := by
  revert k; decide

/-- The support of graph `k`, as loaded. -/
def sup (k : Fin 4) : FVec Ideal S512x512 .bf16 :=
  truncf .bf16 (shapeCast S512x512 (View.ld s (Rect.unit (s := S4x512x512) ![k.val, 0, 0] S1x512x512.size (inb_support k)))
    shapeCasts_S1x512x512_S512x512) bitsLt_bf16_f32

theorem sup_apply (k : Fin 4) : matOf (sup s k) = itemOf s k := by
  funext i j
  have h : ∀ v : Vec Ideal S1x512x512 .f32,
      (truncf .bf16 (shapeCast S512x512 v shapeCasts_S1x512x512_S512x512) bitsLt_bf16_f32 : FVec Ideal S512x512 .bf16) (ix2 i j)
        = (v (ix3 0 i j) : EReal) := by
    intro v
    pointwise
  refine (h _).trans (congrArg s ?_)
  funext a
  apply Fin.ext
  match a with
  | ⟨0, _⟩ => show k.val + 1 * 0 = k.val; omega
  | ⟨1, _⟩ => show 0 + 1 * i.val = i.val; omega
  | ⟨2, _⟩ => show 0 + 1 * j.val = j.val; omega

/-- The encoded states of the four graphs. -/
def start : FVec Ideal S2048x256 .f32 := k0_pay10 (k0_pay2 We) (k0_pay9 x) (constant S2048x256 .f32 0x00000000#32)

/-- Graph `k` after the first update. -/
def first (k : Fin 4) : FVec Ideal S512x256 .f32 :=
  cell (k0_pay3 Wz0 Wr0 Wz1 Wr1) (k0_pay4 Wh0 Wh1) (sup s k) (start x We) (512 * k.val) (slices_rows k)

/-- Graph `k` after the second. -/
def second (k : Fin 4) : FVec Ideal S512x256 .f32 :=
  cell (k0_pay3 Wz0 Wr0 Wz1 Wr1) (k0_pay4 Wh0 Wh1) (sup s k) (stackRows (first x s We Wz0 Wz1 Wr0 Wr1 Wh0 Wh1)) (512 * k.val)
    (slices_rows k)

/-- Graph `k` of the block: the layer of its input and its support. -/
theorem second_apply (k : Fin 4) :
    matOf (second x s We Wz0 Wz1 Wr0 Wr1 Wh0 Wh1 k)
      = layer₀ (weights We Wz0 Wz1 Wr0 Wr1 Wh0 Wh1) (itemOf s k) (itemOf x k) := by
  unfold second layer₀
  rw [cell_apply We, rowsOf_stackRows, first, cell_apply We, start, encode_apply x We Wz0 Wz1 Wr0 Wr1 Wh0 Wh1, sup_apply]

/-! ## The kernel's stored values are these -/

theorem first_0 : k0_pay15 (k0_pay2 We) (k0_pay3 Wz0 Wr0 Wz1 Wr1) (k0_pay4 Wh0 Wh1)
      (k0_pay5 (View.ld s (Rect.unit (s := S4x512x512) ![0, 0, 0] S1x512x512.size inb_S4x512x512_S1x512x512_0_0_0))) (k0_pay9 x)
      (constant S2048x256 .f32 0x00000000#32)
    = first x s We Wz0 Wz1 Wr0 Wr1 Wh0 Wh1 0 := shapeCast_self _ _

theorem first_1 : k0_pay20 (k0_pay4 Wh0 Wh1) (k0_pay16 (k0_pay2 We) (k0_pay9 x) (constant S2048x256 .f32 0x00000000#32))
      (k0_pay18 (k0_pay2 We) (k0_pay3 Wz0 Wr0 Wz1 Wr1)
        (k0_pay6 (View.ld s (Rect.unit (s := S4x512x512) ![1, 0, 0] S1x512x512.size inb_S4x512x512_S1x512x512_1_0_0)))
        (k0_pay9 x) (constant S2048x256 .f32 0x00000000#32))
      (k0_pay19 (k0_pay2 We) (k0_pay3 Wz0 Wr0 Wz1 Wr1)
        (k0_pay6 (View.ld s (Rect.unit (s := S4x512x512) ![1, 0, 0] S1x512x512.size inb_S4x512x512_S1x512x512_1_0_0)))
        (k0_pay9 x) (constant S2048x256 .f32 0x00000000#32))
    = first x s We Wz0 Wz1 Wr0 Wr1 Wh0 Wh1 1 := shapeCast_self _ _

theorem first_2 : k0_pay21 (k0_pay3 Wz0 Wr0 Wz1 Wr1) (k0_pay4 Wh0 Wh1) (k0_pay10 (k0_pay2 We) (k0_pay9 x) (constant S2048x256 .f32 0x00000000#32))
      (k0_pay11 (k0_pay2 We) (k0_pay9 x) (constant S2048x256 .f32 0x00000000#32))
      (k0_pay13 (k0_pay2 We)
        (k0_pay7 (View.ld s (Rect.unit (s := S4x512x512) ![2, 0, 0] S1x512x512.size inb_S4x512x512_S1x512x512_2_0_0)))
        (k0_pay9 x) (constant S2048x256 .f32 0x00000000#32))
    = first x s We Wz0 Wz1 Wr0 Wr1 Wh0 Wh1 2 := shapeCast_self _ _

theorem first_3 : k0_pay27 (k0_pay22 (k0_pay10 (k0_pay2 We) (k0_pay9 x) (constant S2048x256 .f32 0x00000000#32)))
      (k0_pay24 (k0_pay3 Wz0 Wr0 Wz1 Wr1) (k0_pay11 (k0_pay2 We) (k0_pay9 x) (constant S2048x256 .f32 0x00000000#32))
        (k0_pay14 (k0_pay2 We)
          (k0_pay8 (View.ld s (Rect.unit (s := S4x512x512) ![3, 0, 0] S1x512x512.size inb_S4x512x512_S1x512x512_3_0_0)))
          (k0_pay9 x) (constant S2048x256 .f32 0x00000000#32)))
      (k0_pay25 (k0_pay3 Wz0 Wr0 Wz1 Wr1) (k0_pay4 Wh0 Wh1)
        (k0_pay10 (k0_pay2 We) (k0_pay9 x) (constant S2048x256 .f32 0x00000000#32))
        (k0_pay11 (k0_pay2 We) (k0_pay9 x) (constant S2048x256 .f32 0x00000000#32))
        (k0_pay14 (k0_pay2 We)
          (k0_pay8 (View.ld s (Rect.unit (s := S4x512x512) ![3, 0, 0] S1x512x512.size inb_S4x512x512_S1x512x512_3_0_0)))
          (k0_pay9 x) (constant S2048x256 .f32 0x00000000#32)))
      k0_pay26
    = first x s We Wz0 Wz1 Wr0 Wr1 Wh0 Wh1 3 := shapeCast_self _ _

variable (m : (ℓ : Loc nD τ sig) → Buf (Elt Ideal) ℓ)

/-- What a grid point leaves in the output's buffer: its four graphs after the second update. -/
theorem after_eq (c : Dev nD) (t : Fin cfg0.N) :
    (dats m 0 c).after 9 t = (stackAlong0 (second (iblk m c 0 t) (iblk m c 1 t) (iblk m c 2 t) (iblk m c 3 t) (iblk m c 4 t)
      (iblk m c 5 t) (iblk m c 6 t) (iblk m c 7 t) (iblk m c 8 t)) : FVec Ideal S4x512x256 .f32) := by
  rw [after0_9]
  unfold outsAt0
  frame_open
  frame_out
  simp only [first_0, first_1, first_2, first_3]
  rw [scratch_eq (first (iblk m c 0 t) (iblk m c 1 t) (iblk m c 2 t) (iblk m c 3 t) (iblk m c 4 t)
      (iblk m c 5 t) (iblk m c 6 t) (iblk m c 7 t) (iblk m c 8 t))]
  exact out_eq (second (iblk m c 0 t) (iblk m c 1 t) (iblk m c 2 t) (iblk m c 3 t) (iblk m c 4 t)
      (iblk m c 5 t) (iblk m c 6 t) (iblk m c 7 t) (iblk m c 8 t))

end Cert.Proof.Block

end
-- ==== Proof.Array.lean ====
/- Hand-written, untrusted: WHAT THE KERNEL'S RESULT ARRAY HOLDS AFTER THE RUN. Grid point `t` works on graphs `4 t` to
   `4 t + 3`: its blocks of the input, the support and the result are those graphs, its blocks of the weights the whole
   matrices. So the array is, graph by graph, the layer of that graph of the arguments (`final`). -/
module

public import proofs.«01_k».proof.Proof.Block

@[expose] public section

set_option maxRecDepth 16384

noncomputable section

namespace Cert.Proof.Array

open Cert.KernelIdeal Cert.KernelIdeal.Gen Cert.KernelIdeal.Value Cert.Proof.Spec Cert.Proof.Block
open Idealize.ShloMosaic Idealize.ShloMosaic.TcCoe Idealize.SL.Sem

/-- The layer of all sixteen graphs. -/
def G (x : Vec Ideal S16x512x256 .f32) (s : Vec Ideal S16x512x512 .f32) (We Wz0 Wz1 Wr0 Wr1 Wh0 Wh1 : Vec Ideal S256x256 .f32) :
    Vec Ideal S16x512x256 .f32 :=
  fun i => layer₀ (weights We Wz0 Wz1 Wr0 Wr1 Wh0 Wh1) (itemOf s (i 0)) (itemOf x (i 0)) (i 1) (i 2)

variable (m : (ℓ : Loc nD τ sig) → Buf (Elt Ideal) ℓ)

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0, 0] := (by decide +kernel : ∀ t : Fin grid0.N, _)

theorem lt_four (t : Fin cfg0.N) : t.val < 4 := lt_of_lt_of_eq t.isLt N_0

/-- The graph that is graph `k` of point `t`'s block. -/
def graphOf (t : Fin cfg0.N) (k : Fin 4) : Fin 16 := ⟨t.val * 4 + k.val, by have := lt_four t; omega⟩

theorem item_x (c : Dev nD) (t : Fin cfg0.N) (k : Fin 4) :
    itemOf (iblk m c 0 t : Vec Ideal S4x512x256 .f32) k = itemOf (V m c main_arg0) (graphOf t k) := by
  funext i j
  unfold itemOf
  blk_simp [iblk]
  refine congrArg (V m c main_arg0) ?_
  blk_ext [idx0 t, graphOf]

theorem item_s (c : Dev nD) (t : Fin cfg0.N) (k : Fin 4) :
    itemOf (iblk m c 1 t : Vec Ideal S4x512x512 .f32) k = itemOf (V m c main_arg2) (graphOf t k) := by
  funext i j
  unfold itemOf
  blk_simp [iblk]
  refine congrArg (V m c main_arg2) ?_
  blk_ext [idx1 t, graphOf]

theorem whole2 (c : Dev nD) (t : Fin cfg0.N) : iblk m c 2 t = V m c main_arg3 := by
  funext y; blk_simp [iblk]; refine congrArg (V m c main_arg3) ?_; blk_ext [idx2 t]
theorem whole3 (c : Dev nD) (t : Fin cfg0.N) : iblk m c 3 t = V m c main_arg4 := by
  funext y; blk_simp [iblk]; refine congrArg (V m c main_arg4) ?_; blk_ext [idx3 t]
theorem whole4 (c : Dev nD) (t : Fin cfg0.N) : iblk m c 4 t = V m c main_arg5 := by
  funext y; blk_simp [iblk]; refine congrArg (V m c main_arg5) ?_; blk_ext [idx4 t]
theorem whole5 (c : Dev nD) (t : Fin cfg0.N) : iblk m c 5 t = V m c main_arg6 := by
  funext y; blk_simp [iblk]; refine congrArg (V m c main_arg6) ?_; blk_ext [idx5 t]
theorem whole6 (c : Dev nD) (t : Fin cfg0.N) : iblk m c 6 t = V m c main_arg7 := by
  funext y; blk_simp [iblk]; refine congrArg (V m c main_arg7) ?_; blk_ext [idx6 t]
theorem whole7 (c : Dev nD) (t : Fin cfg0.N) : iblk m c 7 t = V m c main_arg8 := by
  funext y; blk_simp [iblk]; refine congrArg (V m c main_arg8) ?_; blk_ext [idx7 t]
theorem whole8 (c : Dev nD) (t : Fin cfg0.N) : iblk m c 8 t = V m c main_arg9 := by
  funext y; blk_simp [iblk]; refine congrArg (V m c main_arg9) ?_; blk_ext [idx8 t]

/-- The stacked block at an index, through the matrix of its graph. -/
theorem stack_apply (f : Fin 4 → FVec Ideal S512x256 .f32) (y : S4x512x256.Idx) :
    (stackAlong0 f : FVec Ideal S4x512x256 .f32) y = matOf (f (y 0)) (y 1) (y 2) := by
  unfold stackAlong0 matOf
  congr 1
  funext a
  match a with
  | ⟨0, _⟩ => rfl
  | ⟨1, _⟩ => rfl

/-- Graph `k` of what point `t` leaves in the result's buffer: the layer of its graph of the arguments. -/
theorem second_eq (c : Dev nD) (t : Fin cfg0.N) (k : Fin 4) :
    matOf (second (iblk m c 0 t) (iblk m c 1 t) (iblk m c 2 t) (iblk m c 3 t) (iblk m c 4 t) (iblk m c 5 t) (iblk m c 6 t)
        (iblk m c 7 t) (iblk m c 8 t) k)
      = layer₀ (weights (V m c main_arg3) (V m c main_arg4) (V m c main_arg5) (V m c main_arg6) (V m c main_arg7)
          (V m c main_arg8) (V m c main_arg9)) (itemOf (V m c main_arg2) (graphOf t k)) (itemOf (V m c main_arg0) (graphOf t k)) := by
  rw [second_apply, item_x, item_s, whole2, whole3, whole4, whole5, whole6, whole7, whole8]

/-- What point `t` leaves in the result's buffer. -/
theorem after_apply (c : Dev nD) (t : Fin cfg0.N) (y : S4x512x256.Idx) : (dats m 0 c).after 9 t y
    = G (V m c main_arg0) (V m c main_arg2) (V m c main_arg3) (V m c main_arg4) (V m c main_arg5) (V m c main_arg6)
        (V m c main_arg7) (V m c main_arg8) (V m c main_arg9) (ix3 (graphOf t (y 0)) (y 1) (y 2)) := by
  rw [after_eq]
  exact (stack_apply _ y).trans (congrFun (congrFun (second_eq m c t (y 0)) (y 1)) (y 2))

/-- The result array after the run. -/
theorem final (c : Dev nD) : (dats m 0 c).arrAt 9 cfg0.N
    = G (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  rw [← V_main_arg0 m c, ← V_main_arg2 m c, ← V_main_arg3 m c, ← V_main_arg4 m c, ← V_main_arg5 m c, ← V_main_arg6 m c,
    ← V_main_arg7 m c, ← V_main_arg8 m c, ← V_main_arg9 m c]
  refine (dats m 0 c).arrAt_eq_of_covers 9 _ (by decide +kernel) fun t hf y => ?_
  have e : ((cfg0.win 9).blk t).view.emb y = (ix3 (graphOf t (y 0)) (y 1) (y 2) : S16x512x256.Idx) := by
    blk_ext [idx9 t, graphOf]
  rw [e]
  blk_simp
  exact after_apply m c t y

end Cert.Proof.Array

end
-- ==== Proof.Layer.lean ====
/- Hand-written, untrusted: WHAT THE REFERENCE COMPUTES. Its one term is its two array functions composed: the input layer
   (`encArr`) and one gated update (`stepArr`), over all sixteen graphs at once (`result_eq`). At graph `g`, each is the plain
   sums of `Spec` on that graph's slice of the arrays (`encArr_apply`, `stepArr_apply`); so the whole result is (`layerArr_apply`). -/
module

public import proofs.«01_k».proof.Proof.Gen.ReferenceIdeal.Run
public import proofs.«01_k».proof.Proof.Spec

@[expose] public section

set_option maxRecDepth 16384

noncomputable section

namespace Cert.Proof.Layer

open Cert.ReferenceIdeal Cert.ReferenceIdeal.Gen Cert.ReferenceIdeal.Value Cert.Proof.Spec
open Idealize.ShloMosaic Idealize.ShloMosaic.TcCoe Idealize.SL.Sem

/-- Node states of the sixteen graphs. -/
abbrev States := FVec Ideal S16x512x256 .f32
/-- A weight matrix. -/
abbrev Wt := FVec Ideal S256x256 .f32
/-- A bias row. -/
abbrev Row := FVec Ideal S256 .f32

/-! ## The reference's array functions -/

/-- The node mask, along the features. -/
def maskArr (M : FVec Ideal S16x512x1 .f32) : States :=
  broadcastInDim S16x512x256 ![0, 1, 2] bcast_S16x512x1_S16x512x256_0_1_2 M

/-- A dense map with its bias. -/
def dense (X : States) (W : Wt) (b : Row) : States :=
  addf (Host.dotGeneral dot_S16x512x256_S256x256_S16x512x256_2_0_01_1_n_n none X W)
    (broadcastInDim S16x512x256 ![0, 1, 2] bcast_S1x1x256_S16x512x256_0_1_2
      (broadcastInDim S1x1x256 ![2] bcast_S256_S1x1x256_2 b))

/-- The positive part. -/
def reluArr (X : States) : States :=
  maximumf X (broadcastInDim S16x512x256 ![] bcast_S_S16x512x256 (constant S_ .f32 0x00000000#32))

/-- All ones. -/
def onesArr : States := broadcastInDim S16x512x256 ![] bcast_S_S16x512x256 (constant S_ .f32 0x3F800000#32)

/-- The logistic function, as the reference spells it. -/
def gateArr (X : States) : States := Host.divf onesArr (addf onesArr (Host.exp (Host.negf X)))

/-- The messages along the support. -/
def msgs (S : FVec Ideal S16x512x512 .f32) (X : States) : States :=
  Host.dotGeneral dot_S16x512x512_S16x512x256_S16x512x256_2_1_1_2_0_0 none S X

/-- The input layer. -/
def encArr (M : FVec Ideal S16x512x1 .f32) (x : States) (We : Wt) (be : Row) : States :=
  mulf (maskArr M) (reluArr (dense x We be))

/-- One gated update. -/
def stepArr (M : FVec Ideal S16x512x1 .f32) (S : FVec Ideal S16x512x512 .f32) (Wz0 Wz1 Wr0 Wr1 Wh0 Wh1 : Wt)
    (bz0 bz1 br0 br1 bh0 bh1 : Row) (X : States) : States :=
  addf
    (mulf (reluArr (mulf (maskArr M) (addf (dense (msgs S X) Wh0 bh0)
        (dense (mulf (gateArr (addf (dense (msgs S X) Wr0 br0) (dense X Wr1 br1))) X) Wh1 bh1))))
      (gateArr (addf (dense (msgs S X) Wz0 bz0) (dense X Wz1 bz1))))
    (mulf X (subf onesArr (gateArr (addf (dense (msgs S X) Wz0 bz0) (dense X Wz1 bz1)))))

/-- The layer: the input layer and two updates. -/
def layerArr (x : States) (M : FVec Ideal S16x512x1 .f32) (S : FVec Ideal S16x512x512 .f32) (We : Wt)
    (Wz0 Wz1 Wr0 Wr1 Wh0 Wh1 : Wt) (be bz0 bz1 br0 br1 bh0 bh1 : Row) : States :=
  stepArr M S Wz0 Wz1 Wr0 Wr1 Wh0 Wh1 bz0 bz1 br0 br1 bh0 bh1
    (stepArr M S Wz0 Wz1 Wr0 Wr1 Wh0 Wh1 bz0 bz1 br0 br1 bh0 bh1 (encArr M x We be))

/-- The reference's term is the layer of its arguments. -/
theorem result_eq (m : (ℓ : Loc nD τ sig) → Buf (Elt Ideal) ℓ) (c : Dev nD) :
    res_out0 (F := Ideal) m c
      = layerArr (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13))
          (m ((c : Thread nD τ).loc main_arg14)) (m ((c : Thread nD τ).loc main_arg15))
          (m ((c : Thread nD τ).loc main_arg16)) := rfl

/-! ## At one graph -/

theorem maskArr_apply (M : FVec Ideal S16x512x1 .f32) (g : Fin 16) :
    itemOf (maskArr M) g = fun i _ => maskOf M g i := by
  funext i j
  unfold maskArr itemOf maskOf
  pointwise

theorem dense_apply (X : States) (W : Wt) (b : Row) (g : Fin 16) :
    itemOf (dense X W b) g = fun i j => mm (itemOf X g) (matOf W) i j + rowOf b j := by
  funext i j
  unfold dense mm itemOf matOf rowOf
  pointwise

theorem msgs_apply (S : FVec Ideal S16x512x512 .f32) (X : States) (g : Fin 16) :
    itemOf (msgs S X) g = mm (itemOf S g) (itemOf X g) := by
  funext i j
  unfold msgs mm itemOf
  pointwise

theorem reluArr_apply (X : States) (g : Fin 16) : itemOf (reluArr X) g = fun i j => relu (itemOf X g i j) := by
  funext i j
  unfold reluArr relu itemOf
  pointwise

theorem onesArr_apply (g : Fin 16) : itemOf onesArr g = fun _ _ => 1 := by
  funext i j
  unfold onesArr itemOf
  pointwise

theorem gateArr_apply (X : States) (g : Fin 16) :
    itemOf (gateArr X) g = fun i j => Ideal.logistic (itemOf X g i j) := by
  funext i j
  unfold gateArr onesArr Ideal.logistic itemOf
  pointwise

theorem mulf_apply (X Y : States) (g : Fin 16) : itemOf (mulf X Y) g = fun i j => itemOf X g i j * itemOf Y g i j := rfl

theorem addf_apply (X Y : States) (g : Fin 16) : itemOf (addf X Y) g = fun i j => itemOf X g i j + itemOf Y g i j := rfl

theorem subf_apply (X Y : States) (g : Fin 16) : itemOf (subf X Y) g = fun i j => itemOf X g i j - itemOf Y g i j := rfl

/-- The input layer at graph `g`. -/
theorem encArr_apply (W : Weights) (b : Biases) (M : FVec Ideal S16x512x1 .f32) (x : States) (We : Wt) (be : Row)
    (hW : W.e = matOf We) (hb : b.e = rowOf be) (g : Fin 16) :
    itemOf (encArr M x We be) g = encode W b (maskOf M g) (itemOf x g) := by
  simp only [encArr, mulf_apply, maskArr_apply, reluArr_apply, dense_apply, ← hW, ← hb]
  rfl

/-- One gated update at graph `g`. -/
theorem stepArr_apply (M : FVec Ideal S16x512x1 .f32) (S : FVec Ideal S16x512x512 .f32)
    (We Wz0 Wz1 Wr0 Wr1 Wh0 Wh1 : Wt) (be bz0 bz1 br0 br1 bh0 bh1 : Row) (X : States) (g : Fin 16) :
    itemOf (stepArr M S Wz0 Wz1 Wr0 Wr1 Wh0 Wh1 bz0 bz1 br0 br1 bh0 bh1 X) g
      = step (weights We Wz0 Wz1 Wr0 Wr1 Wh0 Wh1) (biases be bz0 bz1 br0 br1 bh0 bh1) (maskOf M g) (itemOf S g)
          (itemOf X g) := by
  simp only [stepArr, mulf_apply, addf_apply, subf_apply, maskArr_apply, reluArr_apply, dense_apply, gateArr_apply,
    onesArr_apply, msgs_apply]
  rfl

/-- The reference at graph `g`: the layer of that graph's slices. -/
theorem layerArr_apply (x : States) (M : FVec Ideal S16x512x1 .f32) (S : FVec Ideal S16x512x512 .f32)
    (We Wz0 Wz1 Wr0 Wr1 Wh0 Wh1 : Wt) (be bz0 bz1 br0 br1 bh0 bh1 : Row) (g : Fin 16) :
    itemOf (layerArr x M S We Wz0 Wz1 Wr0 Wr1 Wh0 Wh1 be bz0 bz1 br0 br1 bh0 bh1) g
      = layer (weights We Wz0 Wz1 Wr0 Wr1 Wh0 Wh1) (biases be bz0 bz1 br0 br1 bh0 bh1) (maskOf M g) (itemOf S g)
          (itemOf x g) := by
  rw [layerArr, stepArr_apply (We := We) (be := be), stepArr_apply (We := We) (be := be),
    encArr_apply (weights We Wz0 Wz1 Wr0 Wr1 Wh0 Wh1) (biases be bz0 bz1 br0 br1 bh0 bh1) M x We be rfl rfl]
  rfl

end Cert.Proof.Layer

end
-- ==== Proof.Unmasked.lean ====
/- Hand-written, untrusted: WHAT THE PRECONDITION SAYS. It compares every mask entry with one and every bias entry with zero;
   where all comparisons hold, the mask of each graph is all ones (`mask_eq`) and the biases are all zero (`biases_eq`). -/
module

public import proofs.«01_k».proof.Defs
public import proofs.«01_k».proof.Proof.Spec

@[expose] public section

set_option maxRecDepth 16384

noncomputable section

namespace Cert.Proof.Unmasked

open Cert.Pre_unmasked_unbiased Cert.Proof.Spec Idealize.ShloMosaic

/-- The shape facts the precondition states. -/
instance facts : Cert.Pre_unmasked_unbiased.Facts where
  bcast_S_S16x512x1 := by decide
  bcast_S_S256 := by decide

/-- A comparison that holds says that the two values are equal. -/
theorem eq_of_cmp {a b : Ideal .f32} (h : FloatOps.cmpf (F := Ideal) .oeq a b = 1#1) : a = b := by
  have h' : BitVec.ofBool (decide (a = b)) = 1#1 := h
  by_contra hn
  rw [decide_eq_false hn] at h'
  exact absurd h' (by decide)

/-- A mask that compares equal to one is one. -/
theorem mask_one (M : FVec Ideal S16x512x1 .f32)
    (h : cmpf .oeq M (broadcastInDim S16x512x1 ![] Facts.bcast_S_S16x512x1 (constant S_ .f32 0x3F800000#32)) = fun _ => 1#1)
    (g : Fin 16) : maskOf M g = 1 := by
  funext i
  refine (eq_of_cmp (congrFun h (ix3 g i 0))).trans ?_
  pointwise
  rfl

/-- A bias row that compares equal to zero is zero. -/
theorem row_zero (b : FVec Ideal S256 .f32)
    (h : cmpf .oeq b (broadcastInDim S256 ![] Facts.bcast_S_S256 (constant S_ .f32 0x00000000#32)) = fun _ => 1#1) :
    rowOf b = 0 := by
  funext j
  refine (eq_of_cmp (congrFun h (ix1 j))).trans ?_
  pointwise
  rfl

section
variable (m : (ℓ : Loc Cert.KernelIdeal.nD Cert.KernelIdeal.τ Cert.KernelIdeal.sig) → Buf (Elt Ideal) ℓ)

/-- Under the precondition every graph's mask is all ones. -/
theorem mask_eq (h : Cert.Pre_KernelIdeal_unmasked_unbiased m) (c : Dev Cert.KernelIdeal.nD) (g : Fin 16) :
    maskOf (m ((c.tc : Thread Cert.KernelIdeal.nD Cert.KernelIdeal.τ).loc Cert.KernelIdeal.main_arg1) : FVec Ideal S16x512x1 .f32) g = 1 :=
  mask_one _ (h c).1 g

/-- Under the precondition every bias is zero. -/
theorem biases_eq (h : Cert.Pre_KernelIdeal_unmasked_unbiased m) (c : Dev Cert.KernelIdeal.nD) :
    biases (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) = Biases.zero := by
  obtain ⟨-, h0, h1, h2, h3, h4, h5, h6⟩ := h c
  unfold biases Biases.zero
  rw [row_zero _ h0, row_zero _ h1, row_zero _ h2, row_zero _ h3, row_zero _ h4, row_zero _ h5, row_zero _ h6]

end

end Cert.Proof.Unmasked

end
-- ==== Proof.Equation.lean ====
/- Hand-written, untrusted: THE EQUATION. Graph by graph, the kernel's array is the layer without mask and biases, the
   reference's the layer with them; under the precondition the two are one (`result_eq`). So kernel and reference, run from
   the same arguments, end with the same result (`algebraic`). The reference declares no semaphore, so its frame is its run
   read at the arguments (`frame_reference`). -/
module

public import proofs.«01_k».proof.Proof.Array
public import proofs.«01_k».proof.Proof.Layer
public import proofs.«01_k».proof.Proof.Unmasked

@[expose] public section

set_option maxRecDepth 16384

noncomputable section

namespace Cert.Proof.Equation

open Cert.Proof.Spec Idealize.ShloMosaic Idealize.ShloMosaic.TcCoe Idealize.SL.Sem

/-- The reference's array is the kernel's, where the mask is one and the biases are zero. -/
theorem layer_eq (x : Layer.States) (M : FVec Ideal Cert.ReferenceIdeal.S16x512x1 .f32)
    (S : FVec Ideal Cert.ReferenceIdeal.S16x512x512 .f32) (We Wz0 Wz1 Wr0 Wr1 Wh0 Wh1 : Layer.Wt)
    (be bz0 bz1 br0 br1 bh0 bh1 : Layer.Row) (hM : ∀ g : Fin 16, maskOf M g = 1)
    (hb : biases be bz0 bz1 br0 br1 bh0 bh1 = Biases.zero) :
    Layer.layerArr x M S We Wz0 Wz1 Wr0 Wr1 Wh0 Wh1 be bz0 bz1 br0 br1 bh0 bh1
      = Array.G x S We Wz0 Wz1 Wr0 Wr1 Wh0 Wh1 := by
  funext i
  idx_vars i
  have h := congrFun (congrFun (Layer.layerArr_apply x M S We Wz0 Wz1 Wr0 Wr1 Wh0 Wh1 be bz0 bz1 br0 br1 bh0 bh1 i0) i1) i2
  rw [hM, hb, layer_one] at h
  exact h

/-- Kernel and reference compute the same function of the arguments. -/
theorem algebraic : Cert.algebraic_KernelIdeal_ReferenceIdeal_pre_unmasked_unbiased := by
  intro m g m' g' hpre hargs
  refine ⟨fun c => (Cert.KernelIdeal.Gen.dats m 0 c).arrAt 9 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨a0, a1, a2, a3, a4, a5, a6, a7, a8, a9, a10, a11, a12, a13, a14, a15, a16⟩ := hargs c
  refine (Layer.result_eq m' c).trans (Eq.trans ?_ (Array.final m c).symm)
  rw [a0, a1, a2, a3, a4, a5, a6, a7, a8, a9, a10, a11, a12, a13, a14, a15, a16]
  exact layer_eq _ _ _ _ _ _ _ _ _ _ _ _ _ _ _ _ _ (Unmasked.mask_eq m hpre c) (Unmasked.biases_eq m hpre c)

/-- The reference runs, leaves its arguments unchanged, and has no semaphore to leave anything in. -/
theorem frame_reference : Cert.quiescent_ReferenceIdeal := fun m ρ _ =>
  (θ_run Cert.ReferenceIdeal.defs _ _).mono (fun _ h => ⟨fun c => (h c).2, Idealize.ShloMosaic.sem_eq_zero_of_no_sems (by decide) _⟩) (Cert.ReferenceIdeal.Value.run m ρ)

end Cert.Proof.Equation

end
-- ==== Proof.MaskedCell.lean ====
/- Hand-written, untrusted: ONE GRAPH OF ONE GATED UPDATE, AS THE KERNEL WITH MASK AND BIASES COMPUTES IT. `cell` is the vector
   expression all of its eight updates are instances of, at any place of the graph's rows in the stacked states; `cell_apply`
   is its value, the update `step` of `Spec`: one product of the messages with three matrices side by side, one of the states
   with two, and the two biases of a gate added beforehand. `encode_apply` is the input layer's. -/
module

public import proofs.«01_k».proof.Proof.Gen.MaskedIdeal.Value
public import proofs.«01_k».proof.Proof.Spec

@[expose] public section

set_option maxRecDepth 16384

noncomputable section

namespace Cert.Proof.MaskedCell

open Cert.MaskedIdeal Cert.MaskedIdeal.Gen Cert.Proof.Spec
open Idealize.ShloMosaic Idealize.ShloMosaic.TcCoe Idealize.SL.Sem

/-- The messages: the support times the graph's rows. -/
def msg (S : FVec Ideal S512x512 .bf16) (X : FVec Ideal S2048x256 .f32) (o : Nat)
    (h : S2048x256.Slices ![o, 0] S512x256) : FVec Ideal S512x256 .bf16 :=
  truncf .bf16 (matmul dot_S512x512_S512x256_S512x256_1_0_0_1_n_n none S
    (extractStridedSlice S512x256 ![o, 0] (truncf .bf16 X bitsLt_bf16_f32) h) (constant S512x256 .f32 0x00000000#32))
    bitsLt_bf16_f32

/-- The messages through the three matrices that act on them. -/
def sent (W0 : FVec Ideal S256x768 .bf16) (S : FVec Ideal S512x512 .bf16) (X : FVec Ideal S2048x256 .f32) (o : Nat)
    (h : S2048x256.Slices ![o, 0] S512x256) : FVec Ideal S512x768 .f32 :=
  matmul dot_S512x256_S256x768_S512x768_1_0_0_1_n_n none (msg S X o h) W0 (constant S512x768 .f32 0x00000000#32)

/-- The update and the reset gate side by side. -/
def gates (W0 : FVec Ideal S256x768 .bf16) (W1 : FVec Ideal S256x512 .bf16) (bzr : FVec Ideal S1x512 .f32)
    (S : FVec Ideal S512x512 .bf16) (X : FVec Ideal S2048x256 .f32) (o : Nat)
    (h : S2048x256.Slices ![o, 0] S512x256) : FVec Ideal S512x512 .f32 :=
  logistic (addf (addf (extractStridedSlice S512x512 ![0, 0] (sent W0 S X o h) slices_S512x768_o0_0_S512x512)
      (matmul dot_S512x256_S256x512_S512x512_1_0_0_1_n_n none
        (extractStridedSlice S512x256 ![o, 0] (truncf .bf16 X bitsLt_bf16_f32) h) W1 (constant S512x512 .f32 0x00000000#32)))
    (broadcastTo S512x512 bzr broadcasts_S1x512_S512x512))

/-- One gated update of the graph whose rows begin at `o`. -/
def cell (W0 : FVec Ideal S256x768 .bf16) (W1 : FVec Ideal S256x512 .bf16) (Wh1 : FVec Ideal S256x256 .bf16)
    (bzr : FVec Ideal S1x512 .f32) (bh : FVec Ideal S1x256 .f32) (M : FVec Ideal S2048x1 .f32)
    (S : FVec Ideal S512x512 .bf16) (X : FVec Ideal S2048x256 .f32) (o : Nat) (h : S2048x256.Slices ![o, 0] S512x256)
    (h' : S2048x1.Slices ![o, 0] S512x1) : FVec Ideal S512x256 .f32 :=
  have x : FVec Ideal S512x256 .f32 := extractStridedSlice S512x256 ![o, 0] X h
  have z : FVec Ideal S512x256 .f32 :=
    extractStridedSlice S512x256 ![0, 0] (gates W0 W1 bzr S X o h) slices_S512x512_o0_0_S512x256
  have r : FVec Ideal S512x256 .f32 :=
    extractStridedSlice S512x256 ![0, 256] (gates W0 W1 bzr S X o h) slices_S512x512_o0_256_S512x256
  addf
    (mulf (maximumf
        (mulf (broadcastTo S512x256 (extractStridedSlice S512x1 ![o, 0] M h') broadcasts_S512x1_S512x256)
          (addf (addf (extractStridedSlice S512x256 ![0, 512] (sent W0 S X o h) slices_S512x768_o0_512_S512x256)
              (matmul dot_S512x256_S256x256_S512x256_1_0_0_1_n_n none (truncf .bf16 (mulf r x) bitsLt_bf16_f32) Wh1
                (constant S512x256 .f32 0x00000000#32)))
            (broadcastTo S512x256 bh broadcasts_S1x256_S512x256)))
        (broadcast S512x256 (Scalar.ofBits .f32 0x00000000#32)))
      z)
    (mulf x (subf (broadcast S512x256 (Scalar.ofBits .f32 0x3F800000#32)) z))

/-! ## Its value -/

/-- A bias as the kernel gets it: one row. -/
def biasOf (b : Vec Ideal S1x256 .f32) : Fin 256 → EReal := fun j => b (ix2 0 j)

/-- The bias rows bundled. -/
def biasRows (be bz0 bz1 br0 br1 bh0 bh1 : Vec Ideal S1x256 .f32) : Biases :=
  ⟨biasOf be, biasOf bz0, biasOf bz1, biasOf br0, biasOf br1, biasOf bh0, biasOf bh1⟩

/-- A gate with its two biases added first. -/
theorem pre_eq (A X : Mat 512 256) (W0 : Mat 256 256) (b0 : Fin 256 → EReal) (W1 : Mat 256 256) (b1 : Fin 256 → EReal)
    (i : Fin 512) (j : Fin 256) : mm A W0 i j + mm X W1 i j + (b0 j + b1 j) = pre A X W0 b0 W1 b1 i j :=
  add_add_add_comm _ _ _ _

theorem msg_apply (S : FVec Ideal S512x512 .bf16) (X : FVec Ideal S2048x256 .f32) (k : Fin 4)
    (h : S2048x256.Slices ![512 * k.val, 0] S512x256) (i : Fin 512) (j : Fin 256) :
    msg S X (512 * k.val) h (ix2 i j) = mm (matOf S) (rowsOf X k) i j := by
  unfold msg mm matOf rowsOf
  pointwise

section
variable (Wz0 Wr0 Wh0 Wz1 Wr1 Wh1 : Vec Ideal S256x256 .f32) (be bz0 bz1 br0 br1 bh0 bh1 : Vec Ideal S1x256 .f32)
  (S : FVec Ideal S512x512 .bf16) (X : FVec Ideal S2048x256 .f32) (k : Fin 4)
  (h : S2048x256.Slices ![512 * k.val, 0] S512x256)

/-- The right third of the products with the messages is the candidate's. -/
theorem sent_right (i : Fin 512) (j : Fin 256) :
    sent (k0_pay3 Wz0 Wr0 Wh0) S X (512 * k.val) h (ix2 i ⟨512 + j.val, by omega⟩)
      = mm (mm (matOf S) (rowsOf X k)) (matOf Wh0) i j := by
  have a : ¬ 512 + j.val < 256 := by omega
  have b : ¬ 512 + j.val - 256 < 256 := by omega
  have e : 512 + j.val - 256 - 256 = j.val := by omega
  unfold sent k0_pay3
  pointwise
  simp only [msg_apply, a, b, e, dite_false]
  rfl

/-- The left half of the gates is the update gate's. -/
theorem gates_left (i : Fin 512) (j : Fin 256) :
    gates (k0_pay3 Wz0 Wr0 Wh0) (k0_pay4 Wz1 Wr1) (k0_pay7 bz0 bz1 br0 br1) S X (512 * k.val) h (ix2 i ⟨j.val, by omega⟩)
      = Ideal.logistic (pre (mm (matOf S) (rowsOf X k)) (rowsOf X k) (matOf Wz0) (biasOf bz0) (matOf Wz1) (biasOf bz1) i j) := by
  rw [← pre_eq]
  unfold gates sent k0_pay3 k0_pay4 k0_pay7
  pointwise
  simp only [msg_apply]
  rfl

/-- The right half of the gates is the reset gate's. -/
theorem gates_right (i : Fin 512) (j : Fin 256) :
    gates (k0_pay3 Wz0 Wr0 Wh0) (k0_pay4 Wz1 Wr1) (k0_pay7 bz0 bz1 br0 br1) S X (512 * k.val) h
        (ix2 i ⟨256 + j.val, by omega⟩)
      = Ideal.logistic (pre (mm (matOf S) (rowsOf X k)) (rowsOf X k) (matOf Wr0) (biasOf br0) (matOf Wr1) (biasOf br1) i j) := by
  rw [← pre_eq]
  unfold gates sent k0_pay3 k0_pay4 k0_pay7
  pointwise
  simp only [msg_apply]
  rfl

/-- One update of graph `k` of the block. -/
theorem cell_apply (We : Vec Ideal S256x256 .f32) (M : Vec Ideal S4x512x1 .f32) (h' : S2048x1.Slices ![512 * k.val, 0] S512x1) :
    matOf (cell (k0_pay3 Wz0 Wr0 Wh0) (k0_pay4 Wz1 Wr1) (k0_pay5 Wh1) (k0_pay7 bz0 bz1 br0 br1) (k0_pay8 bh0 bh1) (k0_pay9 M)
        S X (512 * k.val) h h')
      = step (weights We Wz0 Wz1 Wr0 Wr1 Wh0 Wh1) (biasRows be bz0 bz1 br0 br1 bh0 bh1) (maskOf M k) (matOf S) (rowsOf X k) := by
  funext i j
  unfold cell k0_pay5 k0_pay8 k0_pay9 matOf step
  rw [← pre_eq]
  pointwise
  simp only [sent_right, gates_left, gates_right]
  rfl

end

/-- The input layer of a block's four graphs, at graph `k`. -/
theorem encode_apply (x : Vec Ideal S4x512x256 .f32) (M : Vec Ideal S4x512x1 .f32)
    (We Wz0 Wz1 Wr0 Wr1 Wh0 Wh1 : Vec Ideal S256x256 .f32) (be bz0 bz1 br0 br1 bh0 bh1 : Vec Ideal S1x256 .f32) (k : Fin 4) :
    rowsOf (k0_pay14 (k0_pay2 We) (k0_pay6 be) M x) k
      = encode (weights We Wz0 Wz1 Wr0 Wr1 Wh0 Wh1) (biasRows be bz0 bz1 br0 br1 bh0 bh1) (maskOf M k) (itemOf x k) := by
  funext i j
  unfold rowsOf k0_pay14 k0_pay2 k0_pay6 k0_pay9
  pointwise
  rfl

end Cert.Proof.MaskedCell

end
-- ==== Proof.MaskedBlock.lean ====
/- Hand-written, untrusted: WHAT A GRID POINT OF THE KERNEL WITH MASK AND BIASES COMPUTES. Its four graphs are encoded together
   (`start`), updated once each and stacked (`first`), updated again and stacked (`second`), and the stack is stored as the output
   block (`after_eq`); each update is `MaskedCell.cell` at its graph's rows. So the block holds, at graph `k`, the layer of that
   graph (`second_apply`, `block_apply`). -/
module

public import proofs.«01_k».proof.Proof.MaskedCell
public import Idealize.ShloMosaic.Lib.Pipeline.ValueKit

@[expose] public section

set_option maxRecDepth 16384

noncomputable section

namespace Cert.Proof.MaskedBlock

open Cert.MaskedIdeal Cert.MaskedIdeal.Gen Cert.MaskedIdeal.Value Cert.Proof.Spec Cert.Proof.MaskedCell
open Idealize.ShloMosaic Idealize.ShloMosaic.TcCoe Idealize.SL.Sem

/-! ## Four graphs' states, one below the other -/

/-- Four graphs' states, one below the other. -/
def stacked (f : Fin 4 → FVec Ideal S512x256 .f32) : FVec Ideal S2048x256 .f32 :=
  concatenate S2048x256 0 [⟨S512x256, f 0⟩, ⟨S512x256, f 1⟩, ⟨S512x256, f 2⟩, ⟨S512x256, f 3⟩]
    concatenates_S512x256_S512x256_S512x256_S512x256_S2048x256_d0

/-- The rows of graph `k` among them are that graph's states. -/
theorem rowsOf_stacked (f : Fin 4 → FVec Ideal S512x256 .f32) (k : Fin 4) : rowsOf (stacked f) k = matOf (f k) := by
  funext i j
  have at_row (q : Fin 4) (n : Nat) (hn : n < 512) (hk : k = q) (hi : n = i.val) : f q (ix2 ⟨n, hn⟩ j) = f k (ix2 i j) := by
    subst hk
    subst hi
    rfl
  unfold rowsOf stacked matOf
  pointwise
  by_cases h0 : 512 * k.val + i.val < 512
  · exact (dif_pos h0).trans (at_row 0 _ _ (Fin.ext (by show k.val = 0; omega)) (by omega))
  refine (dif_neg h0).trans ?_
  by_cases h1 : 512 * k.val + i.val - 512 < 512
  · exact (dif_pos h1).trans (at_row 1 _ _ (Fin.ext (by show k.val = 1; omega)) (by omega))
  refine (dif_neg h1).trans ?_
  by_cases h2 : 512 * k.val + i.val - 512 - 512 < 512
  · exact (dif_pos h2).trans (at_row 2 _ _ (Fin.ext (by show k.val = 2; omega)) (by omega))
  refine (dif_neg h2).trans ?_
  exact at_row 3 _ _ (Fin.ext (by show k.val = 3; omega)) (by omega)

/-- The stack laid out as a block of four graphs. -/
theorem block_apply (f : Fin 4 → FVec Ideal S512x256 .f32) (k : Fin 4) :
    itemOf (shapeCast S4x512x256 (stacked f) shapeCasts_S2048x256_S4x512x256 : FVec Ideal S4x512x256 .f32) k = matOf (f k) := by
  rw [← rowsOf_stacked]
  funext i j
  unfold rowsOf itemOf
  pointwise
  simp only [Nat.mul_comm]

/-! ## The block's two updates -/

theorem slices_rows (k : Fin 4) : S2048x256.Slices ![512 * k.val, 0] S512x256 := by
  match k with
  | 0 => exact slices_S2048x256_o0_0_S512x256
  | 1 => exact slices_S2048x256_o512_0_S512x256
  | 2 => exact slices_S2048x256_o1024_0_S512x256
  | 3 => exact slices_S2048x256_o1536_0_S512x256

theorem slices_mask (k : Fin 4) : S2048x1.Slices ![512 * k.val, 0] S512x1 := by
  match k with
  | 0 => exact slices_S2048x1_o0_0_S512x1
  | 1 => exact slices_S2048x1_o512_0_S512x1
  | 2 => exact slices_S2048x1_o1024_0_S512x1
  | 3 => exact slices_S2048x1_o1536_0_S512x1

theorem inb_support (k : Fin 4) : ∀ a, (![k.val, 0, 0] : Fin 3 → Nat) a + S1x512x512.size a ≤ S4x512x512.size a := by
  revert k; decide

variable (x : Vec Ideal S4x512x256 .f32) (M : Vec Ideal S4x512x1 .f32) (s : Vec Ideal S4x512x512 .f32)
  (We Wz0 Wz1 Wr0 Wr1 Wh0 Wh1 : Vec Ideal S256x256 .f32) (be bz0 bz1 br0 br1 bh0 bh1 : Vec Ideal S1x256 .f32)

/-- The support of graph `k`, as loaded. -/
def sup (k : Fin 4) : FVec Ideal S512x512 .bf16 :=
  truncf .bf16 (shapeCast S512x512 (View.ld s (Rect.unit (s := S4x512x512) ![k.val, 0, 0] S1x512x512.size (inb_support k)))
    shapeCasts_S1x512x512_S512x512) bitsLt_bf16_f32

theorem sup_apply (k : Fin 4) : matOf (sup s k) = itemOf s k := by
  funext i j
  have h : ∀ v : Vec Ideal S1x512x512 .f32,
      (truncf .bf16 (shapeCast S512x512 v shapeCasts_S1x512x512_S512x512) bitsLt_bf16_f32 : FVec Ideal S512x512 .bf16) (ix2 i j)
        = (v (ix3 0 i j) : EReal) := by
    intro v
    pointwise
  refine (h _).trans (congrArg s ?_)
  funext a
  apply Fin.ext
  match a with
  | ⟨0, _⟩ => show k.val + 1 * 0 = k.val; omega
  | ⟨1, _⟩ => show 0 + 1 * i.val = i.val; omega
  | ⟨2, _⟩ => show 0 + 1 * j.val = j.val; omega

/-- One update of graph `k` of the stacked states `X`. -/
def update (X : FVec Ideal S2048x256 .f32) (k : Fin 4) : FVec Ideal S512x256 .f32 :=
  cell (k0_pay3 Wz0 Wr0 Wh0) (k0_pay4 Wz1 Wr1) (k0_pay5 Wh1) (k0_pay7 bz0 bz1 br0 br1) (k0_pay8 bh0 bh1) (k0_pay9 M)
    (sup s k) X (512 * k.val) (slices_rows k) (slices_mask k)

/-- The four graphs after the first update. -/
def first : Fin 4 → FVec Ideal S512x256 .f32 :=
  update M s Wz0 Wz1 Wr0 Wr1 Wh0 Wh1 bz0 bz1 br0 br1 bh0 bh1 (k0_pay14 (k0_pay2 We) (k0_pay6 be) M x)

/-- And after the second. -/
def second : Fin 4 → FVec Ideal S512x256 .f32 :=
  update M s Wz0 Wz1 Wr0 Wr1 Wh0 Wh1 bz0 bz1 br0 br1 bh0 bh1
    (stacked (first x M s We Wz0 Wz1 Wr0 Wr1 Wh0 Wh1 be bz0 bz1 br0 br1 bh0 bh1))

/-- Graph `k` of the block: the layer of its input, its mask and its support. -/
theorem second_apply (k : Fin 4) :
    matOf (second x M s We Wz0 Wz1 Wr0 Wr1 Wh0 Wh1 be bz0 bz1 br0 br1 bh0 bh1 k)
      = layer (weights We Wz0 Wz1 Wr0 Wr1 Wh0 Wh1) (biasRows be bz0 bz1 br0 br1 bh0 bh1) (maskOf M k) (itemOf s k)
          (itemOf x k) := by
  unfold second update layer
  rw [cell_apply (We := We) (be := be), rowsOf_stacked, first, update, cell_apply (We := We) (be := be),
    encode_apply x M We Wz0 Wz1 Wr0 Wr1 Wh0 Wh1 be bz0 bz1 br0 br1 bh0 bh1, sup_apply]

/-! ## What is stored -/

/-- The input layer's weights. -/
theorem we_eq : k0_pay54 x M s We Wz0 Wz1 Wr0 Wr1 Wh0 Wh1 be bz0 bz1 br0 br1 bh0 bh1
    = k0_pay2 We := by
  unfold k0_pay54; frame_out

/-- The weights that act on the messages. -/
theorem w0_eq : k0_pay55 x M s We Wz0 Wz1 Wr0 Wr1 Wh0 Wh1 be bz0 bz1 br0 br1 bh0 bh1
    = k0_pay3 Wz0 Wr0 Wh0 := by
  unfold k0_pay55; frame_out

/-- The gates' weights that act on the states. -/
theorem w1_eq : k0_pay56 x M s We Wz0 Wz1 Wr0 Wr1 Wh0 Wh1 be bz0 bz1 br0 br1 bh0 bh1
    = k0_pay4 Wz1 Wr1 := by
  unfold k0_pay56; frame_out

/-- The candidate's. -/
theorem wh1_eq : k0_pay57 x M s We Wz0 Wz1 Wr0 Wr1 Wh0 Wh1 be bz0 bz1 br0 br1 bh0 bh1
    = k0_pay5 Wh1 := by
  unfold k0_pay57; frame_out

/-- The input layer's bias. -/
theorem be_eq : k0_pay58 x M s We Wz0 Wz1 Wr0 Wr1 Wh0 Wh1 be bz0 bz1 br0 br1 bh0 bh1
    = k0_pay6 be := by
  unfold k0_pay58; frame_out

/-- The gates' biases. -/
theorem bzr_eq : k0_pay59 x M s We Wz0 Wz1 Wr0 Wr1 Wh0 Wh1 be bz0 bz1 br0 br1 bh0 bh1
    = k0_pay7 bz0 bz1 br0 br1 := by
  unfold k0_pay59; frame_out

/-- The candidate's. -/
theorem bh_eq : k0_pay60 x M s We Wz0 Wz1 Wr0 Wr1 Wh0 Wh1 be bz0 bz1 br0 br1 bh0 bh1
    = k0_pay8 bh0 bh1 := by
  unfold k0_pay60; frame_out

/-- The mask. -/
theorem mask_eq : k0_pay61 x M s We Wz0 Wz1 Wr0 Wr1 Wh0 Wh1 be bz0 bz1 br0 br1 bh0 bh1
    = k0_pay9 M := by
  unfold k0_pay61; frame_out

/-- The encoded states. -/
theorem start_eq : k0_pay63 x M s We Wz0 Wz1 Wr0 Wr1 Wh0 Wh1 be bz0 bz1 br0 br1 bh0 bh1
    = k0_pay14 (k0_pay2 We) (k0_pay6 be) M x := by
  unfold k0_pay63; rw [we_eq, be_eq]; frame_out

/-! The first update's four graphs, as the generated names state them, and their stack. -/

theorem first_0 : k0_pay67 x M s We Wz0 Wz1 Wr0 Wr1 Wh0 Wh1 be bz0 bz1 br0 br1 bh0 bh1
    = first x M s We Wz0 Wz1 Wr0 Wr1 Wh0 Wh1 be bz0 bz1 br0 br1 bh0 bh1 0 := by
  unfold k0_pay67 k0_pay64
  simp only [we_eq, w0_eq, w1_eq, wh1_eq, be_eq, bzr_eq, bh_eq, mask_eq, start_eq]
  frame_out
  rfl

theorem first_1 : k0_pay68 x M s We Wz0 Wz1 Wr0 Wr1 Wh0 Wh1 be bz0 bz1 br0 br1 bh0 bh1
    = first x M s We Wz0 Wz1 Wr0 Wr1 Wh0 Wh1 be bz0 bz1 br0 br1 bh0 bh1 1 := by
  unfold k0_pay68 k0_pay64 k0_pay65
  simp only [we_eq, w0_eq, w1_eq, wh1_eq, be_eq, bzr_eq, bh_eq, mask_eq, start_eq]
  frame_out
  rfl

theorem first_2 : k0_pay69 x M s We Wz0 Wz1 Wr0 Wr1 Wh0 Wh1 be bz0 bz1 br0 br1 bh0 bh1
    = first x M s We Wz0 Wz1 Wr0 Wr1 Wh0 Wh1 be bz0 bz1 br0 br1 bh0 bh1 2 := by
  unfold k0_pay69 k0_pay64
  simp only [we_eq, w0_eq, w1_eq, wh1_eq, be_eq, bzr_eq, bh_eq, mask_eq, start_eq]
  frame_out
  rfl

theorem stacked_first : k0_pay74 x M s We Wz0 Wz1 Wr0 Wr1 Wh0 Wh1 be bz0 bz1 br0 br1 bh0 bh1
    = stacked (first x M s We Wz0 Wz1 Wr0 Wr1 Wh0 Wh1 be bz0 bz1 br0 br1 bh0 bh1) := by
  unfold k0_pay74 k0_pay70 k0_pay71 k0_pay72 k0_pay73 k0_pay64 k0_pay66
  simp only [we_eq, w0_eq, w1_eq, wh1_eq, be_eq, bzr_eq, bh_eq, mask_eq, start_eq, first_0, first_1, first_2]
  frame_out
  rfl

/-- The same stack, where the second update names its parts. -/
theorem restacked : k0_pay36 (k0_pay60 x M s We Wz0 Wz1 Wr0 Wr1 Wh0 Wh1 be bz0 bz1 br0 br1 bh0 bh1) (k0_pay67 x M s We Wz0 Wz1 Wr0 Wr1 Wh0 Wh1 be bz0 bz1 br0 br1 bh0 bh1)
      (k0_pay68 x M s We Wz0 Wz1 Wr0 Wr1 Wh0 Wh1 be bz0 bz1 br0 br1 bh0 bh1) (k0_pay69 x M s We Wz0 Wz1 Wr0 Wr1 Wh0 Wh1 be bz0 bz1 br0 br1 bh0 bh1)
      (k0_pay70 x M s We Wz0 Wz1 Wr0 Wr1 Wh0 Wh1 be bz0 bz1 br0 br1 bh0 bh1) (k0_pay71 x M s We Wz0 Wz1 Wr0 Wr1 Wh0 Wh1 be bz0 bz1 br0 br1 bh0 bh1)
      (k0_pay72 x M s We Wz0 Wz1 Wr0 Wr1 Wh0 Wh1 be bz0 bz1 br0 br1 bh0 bh1) (k0_pay73 x M s We Wz0 Wz1 Wr0 Wr1 Wh0 Wh1 be bz0 bz1 br0 br1 bh0 bh1)
    = stacked (first x M s We Wz0 Wz1 Wr0 Wr1 Wh0 Wh1 be bz0 bz1 br0 br1 bh0 bh1) := stacked_first x M s We Wz0 Wz1 Wr0 Wr1 Wh0 Wh1 be bz0 bz1 br0 br1 bh0 bh1

/-- The stored block, from the input blocks. -/
theorem out_eq : out0_17 x M s We Wz0 Wz1 Wr0 Wr1 Wh0 Wh1 be bz0 bz1 br0 br1 bh0 bh1
    = shapeCast S4x512x256 (stacked (second x M s We Wz0 Wz1 Wr0 Wr1 Wh0 Wh1 be bz0 bz1 br0 br1 bh0 bh1))
        shapeCasts_S2048x256_S4x512x256 := by
  frame_out
  unfold k0_pay76 k0_pay75 k0_pay45 k0_pay44 k0_pay43 k0_pay42 k0_pay41 k0_pay40 k0_pay39 k0_pay38 k0_pay37
  simp only [restacked, stacked_first]
  generalize hX : stacked (first x M s We Wz0 Wz1 Wr0 Wr1 Wh0 Wh1 be bz0 bz1 br0 br1 bh0 bh1) = X
  unfold k0_pay62
  simp only [we_eq, w0_eq, w1_eq, wh1_eq, be_eq, bzr_eq, bh_eq, mask_eq]
  unfold second
  rw [hX]
  rfl

end Cert.Proof.MaskedBlock

end
-- ==== Proof.MaskedArray.lean ====
/- Hand-written, untrusted: WHAT THE RESULT ARRAY OF THE KERNEL WITH MASK AND BIASES HOLDS AFTER THE RUN. Grid point `t` works on
   graphs `4 t` to `4 t + 3`: its blocks of the input, the mask, the support and the result are those graphs, its blocks of the
   weights and of the biases, which the host lays out as rows, are whole. So the array is, graph by graph, the layer of that
   graph of the arguments (`final`). -/
module

public import proofs.«01_k».proof.Proof.MaskedBlock
public import Idealize.ShloMosaic.Lib.Claim

@[expose] public section

set_option maxRecDepth 16384

noncomputable section

namespace Cert.Proof.MaskedArray

open Cert.MaskedIdeal Cert.MaskedIdeal.Gen Cert.MaskedIdeal.Value Cert.Proof.Spec Cert.Proof.MaskedCell Cert.Proof.MaskedBlock
open Idealize.ShloMosaic Idealize.ShloMosaic.TcCoe Idealize.SL.Sem

/-- The layer of all sixteen graphs. -/
def G (x : Vec Ideal S16x512x256 .f32) (M : Vec Ideal S16x512x1 .f32) (s : Vec Ideal S16x512x512 .f32)
    (We Wz0 Wz1 Wr0 Wr1 Wh0 Wh1 : Vec Ideal S256x256 .f32) (be bz0 bz1 br0 br1 bh0 bh1 : Vec Ideal S256 .f32) :
    Vec Ideal S16x512x256 .f32 :=
  fun i => layer (weights We Wz0 Wz1 Wr0 Wr1 Wh0 Wh1) (biases be bz0 bz1 br0 br1 bh0 bh1) (maskOf M (i 0)) (itemOf s (i 0))
    (itemOf x (i 0)) (i 1) (i 2)

variable (m : (ℓ : Loc nD τ sig) → Buf (Elt Ideal) ℓ)

/-! Where each window's block lies at point `t`. -/

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![t.val, 0, 0] := (by decide +kernel : ∀ t : Fin grid0.N, _)

theorem lt_four (t : Fin cfg0.N) : t.val < 4 := lt_of_lt_of_eq t.isLt N_0

/-- The graph that is graph `k` of point `t`'s block. -/
def graphOf (t : Fin cfg0.N) (k : Fin 4) : Fin 16 := ⟨t.val * 4 + k.val, by have := lt_four t; omega⟩

theorem item_x (c : Dev nD) (t : Fin cfg0.N) (k : Fin 4) :
    itemOf (iblk m c 0 t : Vec Ideal S4x512x256 .f32) k = itemOf (V m c main_arg0) (graphOf t k) := by
  funext i j
  unfold itemOf
  blk_simp [iblk]
  refine congrArg (V m c main_arg0) ?_
  blk_ext [idx0 t, graphOf]

theorem item_mask (c : Dev nD) (t : Fin cfg0.N) (k : Fin 4) :
    maskOf (iblk m c 1 t : Vec Ideal S4x512x1 .f32) k = maskOf (V m c main_arg1) (graphOf t k) := by
  funext i
  unfold maskOf
  blk_simp [iblk]
  refine congrArg (V m c main_arg1) ?_
  blk_ext [idx1 t, graphOf]

theorem item_s (c : Dev nD) (t : Fin cfg0.N) (k : Fin 4) :
    itemOf (iblk m c 2 t : Vec Ideal S4x512x512 .f32) k = itemOf (V m c main_arg2) (graphOf t k) := by
  funext i j
  unfold itemOf
  blk_simp [iblk]
  refine congrArg (V m c main_arg2) ?_
  blk_ext [idx2 t, graphOf]

/-! The weights' blocks are the whole matrices, the biases' the whole rows. -/

theorem whole3 (c : Dev nD) (t : Fin cfg0.N) : iblk m c 3 t = V m c main_arg3 := by
  funext y; blk_simp [iblk]; refine congrArg (V m c main_arg3) ?_; blk_ext [idx3 t]
theorem whole4 (c : Dev nD) (t : Fin cfg0.N) : iblk m c 4 t = V m c main_arg4 := by
  funext y; blk_simp [iblk]; refine congrArg (V m c main_arg4) ?_; blk_ext [idx4 t]
theorem whole5 (c : Dev nD) (t : Fin cfg0.N) : iblk m c 5 t = V m c main_arg5 := by
  funext y; blk_simp [iblk]; refine congrArg (V m c main_arg5) ?_; blk_ext [idx5 t]
theorem whole6 (c : Dev nD) (t : Fin cfg0.N) : iblk m c 6 t = V m c main_arg6 := by
  funext y; blk_simp [iblk]; refine congrArg (V m c main_arg6) ?_; blk_ext [idx6 t]
theorem whole7 (c : Dev nD) (t : Fin cfg0.N) : iblk m c 7 t = V m c main_arg7 := by
  funext y; blk_simp [iblk]; refine congrArg (V m c main_arg7) ?_; blk_ext [idx7 t]
theorem whole8 (c : Dev nD) (t : Fin cfg0.N) : iblk m c 8 t = V m c main_arg8 := by
  funext y; blk_simp [iblk]; refine congrArg (V m c main_arg8) ?_; blk_ext [idx8 t]
theorem whole9 (c : Dev nD) (t : Fin cfg0.N) : iblk m c 9 t = V m c main_arg9 := by
  funext y; blk_simp [iblk]; refine congrArg (V m c main_arg9) ?_; blk_ext [idx9 t]

/-- A bias laid out as a row, by its coordinate. -/
theorem biasOf_row (b : Vec Ideal S256 .f32) : biasOf (shapeCast S1x256 b shapeCasts_S256_S1x256) = rowOf b := by
  funext j
  unfold biasOf rowOf
  pointwise

theorem bias10 (c : Dev nD) (t : Fin cfg0.N) :
    biasOf (iblk m c 10 t : Vec Ideal S1x256 .f32) = rowOf (m ((c : Thread nD τ).loc main_arg10)) := by
  have h : (iblk m c 10 t : Vec Ideal S1x256 .f32) = V m c main_v0 := by
    funext y; blk_simp [iblk]; refine congrArg (V m c main_v0) ?_; blk_ext [idx10 t]
  rw [h, ← biasOf_row]
  entry_read
  rfl
theorem bias11 (c : Dev nD) (t : Fin cfg0.N) :
    biasOf (iblk m c 11 t : Vec Ideal S1x256 .f32) = rowOf (m ((c : Thread nD τ).loc main_arg11)) := by
  have h : (iblk m c 11 t : Vec Ideal S1x256 .f32) = V m c main_v1 := by
    funext y; blk_simp [iblk]; refine congrArg (V m c main_v1) ?_; blk_ext [idx11 t]
  rw [h, ← biasOf_row]
  entry_read
  rfl
theorem bias12 (c : Dev nD) (t : Fin cfg0.N) :
    biasOf (iblk m c 12 t : Vec Ideal S1x256 .f32) = rowOf (m ((c : Thread nD τ).loc main_arg12)) := by
  have h : (iblk m c 12 t : Vec Ideal S1x256 .f32) = V m c main_v2 := by
    funext y; blk_simp [iblk]; refine congrArg (V m c main_v2) ?_; blk_ext [idx12 t]
  rw [h, ← biasOf_row]
  entry_read
  rfl
theorem bias13 (c : Dev nD) (t : Fin cfg0.N) :
    biasOf (iblk m c 13 t : Vec Ideal S1x256 .f32) = rowOf (m ((c : Thread nD τ).loc main_arg13)) := by
  have h : (iblk m c 13 t : Vec Ideal S1x256 .f32) = V m c main_v3 := by
    funext y; blk_simp [iblk]; refine congrArg (V m c main_v3) ?_; blk_ext [idx13 t]
  rw [h, ← biasOf_row]
  entry_read
  rfl
theorem bias14 (c : Dev nD) (t : Fin cfg0.N) :
    biasOf (iblk m c 14 t : Vec Ideal S1x256 .f32) = rowOf (m ((c : Thread nD τ).loc main_arg14)) := by
  have h : (iblk m c 14 t : Vec Ideal S1x256 .f32) = V m c main_v4 := by
    funext y; blk_simp [iblk]; refine congrArg (V m c main_v4) ?_; blk_ext [idx14 t]
  rw [h, ← biasOf_row]
  entry_read
  rfl
theorem bias15 (c : Dev nD) (t : Fin cfg0.N) :
    biasOf (iblk m c 15 t : Vec Ideal S1x256 .f32) = rowOf (m ((c : Thread nD τ).loc main_arg15)) := by
  have h : (iblk m c 15 t : Vec Ideal S1x256 .f32) = V m c main_v5 := by
    funext y; blk_simp [iblk]; refine congrArg (V m c main_v5) ?_; blk_ext [idx15 t]
  rw [h, ← biasOf_row]
  entry_read
  rfl
theorem bias16 (c : Dev nD) (t : Fin cfg0.N) :
    biasOf (iblk m c 16 t : Vec Ideal S1x256 .f32) = rowOf (m ((c : Thread nD τ).loc main_arg16)) := by
  have h : (iblk m c 16 t : Vec Ideal S1x256 .f32) = V m c main_v6 := by
    funext y; blk_simp [iblk]; refine congrArg (V m c main_v6) ?_; blk_ext [idx16 t]
  rw [h, ← biasOf_row]
  entry_read
  rfl

/-- Graph `k` of what point `t` leaves in the result's buffer: the layer of its graph of the arguments. -/
theorem second_eq (c : Dev nD) (t : Fin cfg0.N) (k : Fin 4) :
    matOf (second (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (iblk m c 15 t) (iblk m c 16 t) k)
      = layer (weights (V m c main_arg3) (V m c main_arg4) (V m c main_arg5) (V m c main_arg6) (V m c main_arg7)
        (V m c main_arg8) (V m c main_arg9))
          (biases (m ((c : Thread nD τ).loc main_arg10)) (m ((c : Thread nD τ).loc main_arg11)) (m
        ((c : Thread nD τ).loc main_arg12)) (m ((c : Thread nD τ).loc main_arg13)) (m ((c : Thread nD τ).loc main_arg14))
        (m ((c : Thread nD τ).loc main_arg15)) (m ((c : Thread nD τ).loc main_arg16)))
          (maskOf (V m c main_arg1) (graphOf t k)) (itemOf (V m c main_arg2) (graphOf t k))
          (itemOf (V m c main_arg0) (graphOf t k)) := by
  have hb : biasRows (iblk m c 10 t) (iblk m c 11 t) (iblk m c 12 t) (iblk m c 13 t) (iblk m c 14 t) (iblk m c 15 t)
        (iblk m c 16 t)
      = biases (m ((c : Thread nD τ).loc main_arg10)) (m ((c : Thread nD τ).loc main_arg11)) (m
        ((c : Thread nD τ).loc main_arg12)) (m ((c : Thread nD τ).loc main_arg13)) (m ((c : Thread nD τ).loc main_arg14))
        (m ((c : Thread nD τ).loc main_arg15)) (m ((c : Thread nD τ).loc main_arg16)) := by
    unfold biasRows biases
    rw [bias10, bias11, bias12, bias13, bias14, bias15, bias16]
  rw [second_apply, item_x, item_mask, item_s, whole3, whole4, whole5, whole6, whole7, whole8, whole9, hb]

/-- What point `t` leaves in the result's buffer. -/
theorem after_apply (c : Dev nD) (t : Fin cfg0.N) (y : S4x512x256.Idx) : (dats m 0 c).after 17 t y
    = G (V m c main_arg0) (V m c main_arg1) (V m c main_arg2) (V m c main_arg3) (V m c main_arg4) (V m c main_arg5)
        (V m c main_arg6) (V m c main_arg7) (V m c main_arg8) (V m c main_arg9) (m ((c : Thread nD τ).loc main_arg10)) (m
        ((c : Thread nD τ).loc main_arg11)) (m ((c : Thread nD τ).loc main_arg12)) (m ((c : Thread nD τ).loc main_arg13))
        (m ((c : Thread nD τ).loc main_arg14)) (m ((c : Thread nD τ).loc main_arg15)) (m
        ((c : Thread nD τ).loc main_arg16)) (ix3 (graphOf t (y 0)) (y 1) (y 2)) := by
  rw [after0_17, out_eq]
  have e : y = ix3 (y 0) (y 1) (y 2) := by
    funext a
    match a with
    | ⟨0, _⟩ => rfl
    | ⟨1, _⟩ => rfl
    | ⟨2, _⟩ => rfl
  exact (congrArg _ e).trans ((congrFun (congrFun (block_apply _ (y 0)) (y 1)) (y 2)).trans
    (congrFun (congrFun (second_eq m c t (y 0)) (y 1)) (y 2)))

/-- The result array after the run. -/
theorem final (c : Dev nD) : (dats m 0 c).arrAt 17 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m
        ((c : Thread nD τ).loc main_arg11)) (m ((c : Thread nD τ).loc main_arg12)) (m ((c : Thread nD τ).loc main_arg13))
        (m ((c : Thread nD τ).loc main_arg14)) (m ((c : Thread nD τ).loc main_arg15)) (m
        ((c : Thread nD τ).loc main_arg16)) := by
  rw [← V_main_arg0 m c, ← V_main_arg1 m c, ← V_main_arg2 m c, ← V_main_arg3 m c, ← V_main_arg4 m c, ← V_main_arg5 m c, ← V_main_arg6 m c, ← V_main_arg7 m c, ← V_main_arg8 m c, ← V_main_arg9 m c]
  refine (dats m 0 c).arrAt_eq_of_covers 17 _ (by decide +kernel) fun t hf y => ?_
  have e : ((cfg0.win 17).blk t).view.emb y = (ix3 (graphOf t (y 0)) (y 1) (y 2) : S16x512x256.Idx) := by
    blk_ext [idx17 t, graphOf]
  rw [e]
  blk_simp
  exact after_apply m c t y

end Cert.Proof.MaskedArray

end
-- ==== Proof.MaskedEquation.lean ====
/- Hand-written, untrusted: THE EQUATION FOR THE KERNEL WITH MASK AND BIASES. Graph by graph, its array and the reference's are
   the same layer of the arguments (`layer_eq`), so from the same arguments, whatever they are, they end with the same result
   (`algebraic`). -/
module

public import proofs.«01_k».proof.Proof.MaskedArray
public import proofs.«01_k».proof.Proof.Layer
public import proofs.«01_k».proof.Defs

@[expose] public section

set_option maxRecDepth 16384

noncomputable section

namespace Cert.Proof.MaskedEquation

open Cert.Proof.Spec Idealize.ShloMosaic Idealize.ShloMosaic.TcCoe Idealize.SL.Sem

/-- The reference's array is the kernel's. -/
theorem layer_eq (x : Layer.States) (M : FVec Ideal Cert.ReferenceIdeal.S16x512x1 .f32)
    (S : FVec Ideal Cert.ReferenceIdeal.S16x512x512 .f32) (We Wz0 Wz1 Wr0 Wr1 Wh0 Wh1 : Layer.Wt)
    (be bz0 bz1 br0 br1 bh0 bh1 : Layer.Row) :
    Layer.layerArr x M S We Wz0 Wz1 Wr0 Wr1 Wh0 Wh1 be bz0 bz1 br0 br1 bh0 bh1
      = MaskedArray.G x M S We Wz0 Wz1 Wr0 Wr1 Wh0 Wh1 be bz0 bz1 br0 br1 bh0 bh1 := by
  funext i
  idx_vars i
  exact congrFun (congrFun (Layer.layerArr_apply x M S We Wz0 Wz1 Wr0 Wr1 Wh0 Wh1 be bz0 bz1 br0 br1 bh0 bh1 i0) i1) i2

/-- Kernel and reference compute the same function of the arguments. -/
theorem algebraic : Cert.algebraic_MaskedIdeal_ReferenceIdeal := by
  intro m g m' g' hpre hargs
  refine ⟨fun c => (Cert.MaskedIdeal.Gen.dats m 0 c).arrAt 17 Cert.MaskedIdeal.cfg0.N, Cert.MaskedIdeal.Value.run_blocks m g, ?_⟩
  refine (θ_run Cert.ReferenceIdeal.defs _ _).mono (fun r h c => ⟨(h c).1.trans ?_, (h c).2⟩) (Cert.ReferenceIdeal.Value.run m' g')
  obtain ⟨a0, a1, a2, a3, a4, a5, a6, a7, a8, a9, a10, a11, a12, a13, a14, a15, a16⟩ := hargs c
  refine (Layer.result_eq m' c).trans (Eq.trans ?_ (MaskedArray.final m c).symm)
  rw [a0, a1, a2, a3, a4, a5, a6, a7, a8, a9, a10, a11, a12, a13, a14, a15, a16]
  exact layer_eq _ _ _ _ _ _ _ _ _ _ _ _ _ _ _ _ _

end Cert.Proof.MaskedEquation

end
-- ==== Proof.lean ====
/- Hand-written, untrusted: THE CLAIMS PUT TOGETHER. The programs' side conditions are the instances the generated modules
   prove; the kernels' frames are the generated ones, the reference's is its run; the ideal kernels are the kernels with no
   operation rewritten, so preservation is trivial; and the kernel without mask and biases computes what the reference does
   where the mask is one and the biases are zero (`Equation.algebraic`), the kernel with them everywhere
   (`MaskedEquation.algebraic`). -/
module

public import proofs.«01_k».proof.Defs
public import proofs.«01_k».proof.Proof.Gen.Kernel.Frame
public import proofs.«01_k».proof.Proof.Gen.KernelIdeal.Frame
public import proofs.«01_k».proof.Proof.Gen.Masked.Frame
public import proofs.«01_k».proof.Proof.Gen.MaskedIdeal.Frame
public import proofs.«01_k».proof.Proof.Equation
public import proofs.«01_k».proof.Proof.MaskedEquation

@[expose] public section

theorem Cert.Proof.claim : Cert.Claim :=
  ⟨Cert.Kernel.Gen.facts, Cert.KernelIdeal.Gen.facts, Cert.ReferenceIdeal.Gen.facts, Cert.Masked.Gen.facts,
    Cert.MaskedIdeal.Gen.facts, Cert.Proof.Unmasked.facts,
    fun m ρ _ => Cert.Kernel.Gen.frame m ρ,
    fun m ρ _ => Cert.KernelIdeal.Gen.frame m ρ,
    fun m ρ _ => Cert.KernelIdeal.Gen.frame m ρ,
    Cert.Proof.Equation.frame_reference,
    fun m ρ _ => Cert.Proof.Equation.frame_reference m ρ trivial,
    fun m ρ _ => Cert.Masked.Gen.frame m ρ,
    fun m ρ _ => Cert.MaskedIdeal.Gen.frame m ρ,
    trivial,
    Cert.Proof.Equation.algebraic,
    trivial,
    Cert.Proof.MaskedEquation.algebraic⟩
